-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "inv448" .f32 0x3B124925#32 ((448⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 2048]⟩ ⟨2, ![4096, 2048]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S4096x2048 : Shape := ⟨2, ![4096, 2048]⟩
abbrev S1024x2048 : Shape := ⟨2, ![1024, 2048]⟩
abbrev S2x1024x1024 : Shape := ⟨3, ![2, 1024, 1024]⟩
abbrev S4x1024x1024 : Shape := ⟨3, ![4, 1024, 1024]⟩
abbrev S3x1024x1024 : Shape := ⟨3, ![3, 1024, 1024]⟩
abbrev S4x8x128 : Shape := ⟨3, ![4, 8, 128]⟩
abbrev S2 : Shape := ⟨1, ![2]⟩
abbrev S_ : Shape := ⟨0, ![]⟩
abbrev S4 : Shape := ⟨1, ![4]⟩
abbrev S3 : Shape := ⟨1, ![3]⟩
abbrev S1 : Shape := ⟨1, ![1]⟩
abbrev S1x1024x1024 : Shape := ⟨3, ![1, 1024, 1024]⟩
abbrev S1024x1024 : Shape := ⟨2, ![1024, 1024]⟩
abbrev S1x512x1024 : Shape := ⟨3, ![1, 512, 1024]⟩
abbrev S512x1024 : Shape := ⟨2, ![512, 1024]⟩
abbrev S512x2048 : Shape := ⟨2, ![512, 2048]⟩
abbrev S1x512x2048 : Shape := ⟨3, ![1, 512, 2048]⟩
abbrev S1x1x1 : Shape := ⟨3, ![1, 1, 1]⟩
abbrev S8x128 : Shape := ⟨2, ![8, 128]⟩
abbrev S1x8x128 : Shape := ⟨3, ![1, 8, 128]⟩
abbrev S1x4x8x128 : Shape := ⟨4, ![1, 4, 8, 128]⟩
abbrev S1x1x1x1 : Shape := ⟨4, ![1, 1, 1, 1]⟩
abbrev S256x2048 : Shape := ⟨2, ![256, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S1024x2048, .f32⟩
  | .local _ .vmem, ⟨0, _⟩ => ⟨S2x1024x1024, .f32⟩
  | .local _ .vmem, ⟨1, _⟩ => ⟨S4x1024x1024, .bf16⟩
  | .local _ .vmem, ⟨2, _⟩ => ⟨S3x1024x1024, .bf16⟩
  | .local _ .vmem, ⟨3, _⟩ => ⟨S1024x2048, .f32⟩
  | .local _ .vmem, ⟨4, _⟩ => ⟨S1024x2048, .bf16⟩
  | .local _ .vmem, ⟨5, _⟩ => ⟨S1024x2048, .f32⟩
  | .local _ .vmem, ⟨6, _⟩ => ⟨S4x8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 1 21 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_21 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_20 : BitVec 32 := 1#32
  let v37 : BitVec 32 := Scalar.muli v24 c1_i32_20
  let v38 : BitVec 32 := Scalar.addi c0_i32_21 v37
  v38.toNat
def k0_dev2 (d0 : Dev nD) : Nat :=
  let c0_i32_24 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_23 : BitVec 32 := 1#32
  let v39 : BitVec 32 := Scalar.muli v13 c1_i32_23
  let v40 : BitVec 32 := Scalar.addi c0_i32_24 v39
  v40.toNat
def k0_dev3 (d0 : Dev nD) : Nat :=
  let c0_i32_27 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_13 : BitVec 32 := 4#32
  let c0_i32_14 : BitVec 32 := 0#32
  let v26 : BitVec 1 := Scalar.cmpi .eq c4_i32_13 c0_i32_14
  let c1_i32_15 : BitVec 32 := 1#32
  let v27 : BitVec 32 := Scalar.select v26 c1_i32_15 c4_i32_13
  let v28 : BitVec 32 := Scalar.remsi v25 v27
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let c0_i32_16 : BitVec 32 := 0#32
  let v29 : BitVec 1 := Scalar.cmpi .ne v28 c0_i32_16
  let v33 : BitVec 1 := Scalar.andi v32 v29
  let v34 : BitVec 32 := Scalar.addi v28 v27
  let v35 : BitVec 32 := Scalar.select v33 v34 v28
  let c1_i32_26 : BitVec 32 := 1#32
  let v41 : BitVec 32 := Scalar.muli v35 c1_i32_26
  let v42 : BitVec 32 := Scalar.addi c0_i32_27 v41
  v42.toNat
def k0_off1 (d0 : Dev nD) (c1_i32_0 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1024_i32 : BitVec 32 := 1024#32
  let v43 : BitVec 32 := Scalar.muli v13 c1024_i32
  let c0_i32_33 : BitVec 32 := 0#32
  ![v43.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1024_i32_28 : BitVec 32 := 1024#32
  let v44 : BitVec 32 := Scalar.muli v24 c1024_i32_28
  let c0_i32_38 : BitVec 32 := 0#32
  ![v44.toNat, 0]
def k0_dev4 (d0 : Dev nD) : Nat :=
  let c0_i32_54 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_53 : BitVec 32 := 1#32
  let v66 : BitVec 32 := Scalar.muli v13 c1_i32_53
  let v67 : BitVec 32 := Scalar.addi c0_i32_54 v66
  v67.toNat
def k0_dev5 (d0 : Dev nD) : Nat :=
  let c0_i32_80 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_79 : BitVec 32 := 1#32
  let v93 : BitVec 32 := Scalar.muli v24 c1_i32_79
  let v94 : BitVec 32 := Scalar.addi c0_i32_80 v93
  v94.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_85 : BitVec 32 := 1024#32
  let v103 : BitVec 32 := Scalar.muli v2 c1024_i32_85
  let c0_i32_90 : BitVec 32 := 0#32
  ![v103.toNat, 0]
def k0_dev6 (d0 : Dev nD) : Nat :=
  let c0_i32_106 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_13 : BitVec 32 := 4#32
  let c0_i32_14 : BitVec 32 := 0#32
  let v26 : BitVec 1 := Scalar.cmpi .eq c4_i32_13 c0_i32_14
  let c1_i32_15 : BitVec 32 := 1#32
  let v27 : BitVec 32 := Scalar.select v26 c1_i32_15 c4_i32_13
  let v28 : BitVec 32 := Scalar.remsi v25 v27
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let c0_i32_16 : BitVec 32 := 0#32
  let v29 : BitVec 1 := Scalar.cmpi .ne v28 c0_i32_16
  let v33 : BitVec 1 := Scalar.andi v32 v29
  let v34 : BitVec 32 := Scalar.addi v28 v27
  let v35 : BitVec 32 := Scalar.select v33 v34 v28
  let c1_i32_105 : BitVec 32 := 1#32
  let v120 : BitVec 32 := Scalar.muli v35 c1_i32_105
  let v121 : BitVec 32 := Scalar.addi c0_i32_106 v120
  v121.toNat
def k0_dev7 (d0 : Dev nD) : Nat :=
  let c0_i32_116 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_13 : BitVec 32 := 4#32
  let c0_i32_14 : BitVec 32 := 0#32
  let v26 : BitVec 1 := Scalar.cmpi .eq c4_i32_13 c0_i32_14
  let c1_i32_15 : BitVec 32 := 1#32
  let v27 : BitVec 32 := Scalar.select v26 c1_i32_15 c4_i32_13
  let v28 : BitVec 32 := Scalar.remsi v25 v27
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let c0_i32_16 : BitVec 32 := 0#32
  let v29 : BitVec 1 := Scalar.cmpi .ne v28 c0_i32_16
  let v33 : BitVec 1 := Scalar.andi v32 v29
  let v34 : BitVec 32 := Scalar.addi v28 v27
  let v35 : BitVec 32 := Scalar.select v33 v34 v28
  let c1_i32_115 : BitVec 32 := 1#32
  let v130 : BitVec 32 := Scalar.muli v35 c1_i32_115
  let v131 : BitVec 32 := Scalar.addi c0_i32_116 v130
  v131.toNat
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_130 : BitVec 32 := 1024#32
  let v151 : BitVec 32 := Scalar.muli v2 c1024_i32_130
  let c0_i32_131 : BitVec 32 := 0#32
  ![v151.toNat, 0]
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1024_i32_137 : BitVec 32 := 1024#32
  let v159 : BitVec 32 := Scalar.muli v24 c1024_i32_137
  let c0_i32_138 : BitVec 32 := 0#32
  ![v159.toNat, 0]
def k0_off6 (d0 : Dev nD) (c1_i32_0 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1024_i32_151 : BitVec 32 := 1024#32
  let v174 : BitVec 32 := Scalar.muli v13 c1024_i32_151
  let c0_i32_152 : BitVec 32 := 0#32
  ![v174.toNat, 0]
def k0_dev8 (d0 : Dev nD) : Nat :=
  let c0_i32_296 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_295 : BitVec 32 := 1#32
  let v301 : BitVec 32 := Scalar.muli v13 c1_i32_295
  let v302 : BitVec 32 := Scalar.addi c0_i32_296 v301
  v302.toNat
def k0_dev9 (d0 : Dev nD) : Nat :=
  let c0_i32_306 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_305 : BitVec 32 := 1#32
  let v311 : BitVec 32 := Scalar.muli v24 c1_i32_305
  let v312 : BitVec 32 := Scalar.addi c0_i32_306 v311
  v312.toNat
def k0_dev10 (d0 : Dev nD) : Nat :=
  let c0_i32_316 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_13 : BitVec 32 := 4#32
  let c0_i32_14 : BitVec 32 := 0#32
  let v26 : BitVec 1 := Scalar.cmpi .eq c4_i32_13 c0_i32_14
  let c1_i32_15 : BitVec 32 := 1#32
  let v27 : BitVec 32 := Scalar.select v26 c1_i32_15 c4_i32_13
  let v28 : BitVec 32 := Scalar.remsi v25 v27
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let c0_i32_16 : BitVec 32 := 0#32
  let v29 : BitVec 1 := Scalar.cmpi .ne v28 c0_i32_16
  let v33 : BitVec 1 := Scalar.andi v32 v29
  let v34 : BitVec 32 := Scalar.addi v28 v27
  let v35 : BitVec 32 := Scalar.select v33 v34 v28
  let c1_i32_315 : BitVec 32 := 1#32
  let v321 : BitVec 32 := Scalar.muli v35 c1_i32_315
  let v322 : BitVec 32 := Scalar.addi c0_i32_316 v321
  v322.toNat
-- ==== KernelIdeal.lean ====
variable {F : FTy → Type} [FloatOps F] [Named F]
def κ : String → Option EReal := fun
  | "inv448" => some ((448⁻¹ : ℝ) : EReal)
  | _ => none
-- ==== ReferenceIdeal.lean ====
abbrev S4096x4096 : Shape := ⟨2, ![4096, 4096]⟩
abbrev S4096x2048 : Shape := ⟨2, ![4096, 2048]⟩
abbrev S_ : Shape := ⟨0, ![]⟩
abbrev S1x1 : Shape := ⟨2, ![1, 1]⟩

abbrev nBuf : Space → Nat
  | .hbm => 24
  | .vmem => 3
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S4096x2048, .fp8e4m3⟩
  | .hbm, ⟨22, _⟩ => ⟨S1x1, .f32⟩
  | .hbm, ⟨23, _⟩ => ⟨S4096x2048, .f32⟩
  | .local _ .vmem, ⟨0, _⟩ => ⟨S4096x2048, .fp8e4m3⟩
  | .local _ .vmem, ⟨1, _⟩ => ⟨S1x1, .f32⟩
  | .local _ .vmem, ⟨2, _⟩ => ⟨S4096x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_cst_3 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Steps.lean ====
/-
# Steps of a device's run, on named pieces of buffers

A PIECE is the set of elements a memref's view names on a device. The rules below load from, store to, copy
between and wait for pieces; each is stated once for every signature, over the contents a view reads.
-/
module

public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.Steps

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {F : FTy → Type} [FloatOps F] {U : Type} [URA U] {Λ : Labels}

local notation "𝕄" => MT nD τ sig Unit (Elt F) ℕ U ℕ

variable {sp sp' : Space} {s s' : Shape} {e : EltTy}

/-- The elements of device `c` that `v` names, at share `q`, holding what `f` holds there. -/
def pt (c : Dev nD) (v : Memref sig .tc sp s e) (q : PosShare TreeShare) (f : Buf (Elt F) (v.view.loc (c : Thread nD τ))) : sProp 𝕄 :=
  v.view.loc (c : Thread nD τ) ↦[v.view.set]{q} f

instance pt_storable (c : Dev nD) (v : Memref sig .tc sp s e) (q : PosShare TreeShare) (f) :
    BI.Storable (upEmb : UEmb _ 𝕄) (pt (F := F) (U := U) c v q f) := by unfold pt; infer_instance

/-- The elements that `v` names, at contents nobody recorded. -/
abbrev anyAt (c : Dev nD) (v : Memref sig .tc sp s e) : sProp 𝕄 := iprop(∃ f, pt (F := F) (U := U) c v fullShare f)

instance anyAt_storable (c : Dev nD) (v : Memref sig .tc sp s e) :
    BI.Storable (upEmb : UEmb _ 𝕄) (anyAt (F := F) (U := U) c v) := by infer_instance

/-- Contents that agree where `v` reads are the same piece. -/
theorem pt_read (c : Dev nD) (v : Memref sig .tc sp s e) (q : PosShare TreeShare) {f g : Buf (Elt F) (v.view.loc (c : Thread nD τ))}
    (h : v.view.read (Elt F) f = v.view.read (Elt F) g) : (pt c v q f : sProp 𝕄) = pt c v q g := by
  unfold pt
  refine pointsTo_congr fun i hi => ?_
  obtain ⟨j, -, rfl⟩ := Finset.mem_map.mp hi
  have := congrFun h j
  rw [View.read_apply, View.read_apply] at this
  exact cast_inj _ |>.mp this

/-- A write of what `g` reads leaves the piece at `g`. -/
theorem pt_write (c : Dev nD) (v : Memref sig .tc sp s e) (q : PosShare TreeShare) {f g : Buf (Elt F) (v.view.loc (c : Thread nD τ))}
    {w : s.Idx → Elt F e} (h : v.view.read (Elt F) g = w) :
    (pt c v q (v.view.write (Elt F) f w Finset.univ) : sProp 𝕄) = pt c v q g :=
  pt_read c v q (by rw [View.read_write_univ, h])

section Run

variable {defs : Defs nD τ sig (Elt F) Λ} {α : Type} (c : Dev nD)

/-- A load of a slot: the slot's elements are held, and the program goes on at what they hold. -/
theorem ld_slot {cs : CoreSpace} {M : Memref sig .tc cs s e} {r : Rect s} {hr : ∀ a, r.stride a = 1} {hq : (r.shape).Squeezes s'}
    {hl : M.view.LoadsAt r} {Q : α → sProp 𝕄} {k : (r.shape.Idx → Elt F e) → Prog (TpuEff nD τ sig (Elt F) Λ .tc) α} {q : PosShare TreeShare}
    {f : Buf (Elt F) (M.view.loc (c : Thread nD τ))} {x : r.shape.Idx → Elt F e} (hx : M.view.readAt (Elt F) r.toLoadRect f = x) :
    (pt c ((M.slice r hr).squeeze s' hq) q f : sProp 𝕄)
      ⊢ iprop((pt c ((M.slice r hr).squeeze s' hq) q f -∗ wp frame (wpE defs Variants.none (c : Thread nD τ) none) Set.univ (k x) Q)
        -∗ wp frame (wpE defs Variants.none (c : Thread nD τ) none) Set.univ (.op (.load M r.toLoadRect hl) k) Q) := by
  subst hx
  unfold pt
  have hs : ((M.slice r hr).squeeze s' hq).view.set = (M.slice r hr).view.set := View.set_reshape _ _
  rw [hs]
  exact wp_load_rect Variants.none (c : Thread nD τ) none Set.univ (m := M) (r := r) (hl := hl) (k := k) (f := f) (le_refl _)

/-- A store to a slot: its elements end at any contents that read there what is stored. -/
theorem st_slot {cs : CoreSpace} {M : Memref sig .tc cs s e} {r : Rect s} {hr : ∀ a, r.stride a = 1} {hq : (r.shape).Squeezes s'}
    {w : r.shape.Idx → Elt F e} {hx : (M.access r).Stores Finset.univ} {hm : (Finset.univ : Finset r.shape.Idx) = Finset.univ ∨ ∀ a, r.stride a = 1}
    {Q : α → sProp 𝕄} {k : PUnit → Prog (TpuEff nD τ sig (Elt F) Λ .tc) α}
    {f : Buf (Elt F) (M.view.loc (c : Thread nD τ))} (g : Buf (Elt F) (M.view.loc (c : Thread nD τ)))
    (hg : M.view.readAt (Elt F) r.toLoadRect g = w) :
    (pt c ((M.slice r hr).squeeze s' hq) fullShare f : sProp 𝕄)
      ⊢ iprop((pt c ((M.slice r hr).squeeze s' hq) fullShare g -∗ wp frame (wpE defs Variants.none (c : Thread nD τ) none) Set.univ (k ⟨⟩) Q)
        -∗ wp frame (wpE defs Variants.none (c : Thread nD τ) none) Set.univ (.op (.store M r w Finset.univ hx hm) k) Q) := by
  have hs : ((M.slice r hr).squeeze s' hq).view.set = (M.slice r hr).view.set := View.set_reshape _ _
  have e := pt_write (F := F) (U := U) c (M.slice r hr) fullShare (f := f) (g := g) (w := w) hg
  unfold pt at e ⊢
  rw [hs]
  iintro Hp Hk
  iapply (wp_store Variants.none (c : Thread nD τ) none Set.univ (m := M) (r := r) (w := w) (hx := hx) (hm := hm) (k := k) (f := f) (le_refl _)) $$ [Hp]
  · iexact Hp
  iintro Hp
  iapply Hk
  iapply (Entails.of_eq e)
  iexact Hp

/-- A load of a rectangle held as a piece of its own. -/
theorem ld_rect {cs : CoreSpace} {M : Memref sig .tc cs s e} {r : Rect s} {hr : ∀ a, r.stride a = 1}
    {hl : M.view.LoadsAt r} {Q : α → sProp 𝕄} {k : (r.shape.Idx → Elt F e) → Prog (TpuEff nD τ sig (Elt F) Λ .tc) α} {q : PosShare TreeShare}
    {f : Buf (Elt F) (M.view.loc (c : Thread nD τ))} {x : r.shape.Idx → Elt F e} (hx : M.view.readAt (Elt F) r.toLoadRect f = x) :
    (pt c (M.slice r hr) q f : sProp 𝕄)
      ⊢ iprop((pt c (M.slice r hr) q f -∗ wp frame (wpE defs Variants.none (c : Thread nD τ) none) Set.univ (k x) Q)
        -∗ wp frame (wpE defs Variants.none (c : Thread nD τ) none) Set.univ (.op (.load M r.toLoadRect hl) k) Q) := by
  subst hx
  unfold pt
  exact wp_load_rect Variants.none (c : Thread nD τ) none Set.univ (m := M) (r := r) (hl := hl) (k := k) (f := f) (le_refl _)

/-- A store to a rectangle held as a piece of its own. -/
theorem st_rect {cs : CoreSpace} {M : Memref sig .tc cs s e} {r : Rect s} {hr : ∀ a, r.stride a = 1}
    {w : r.shape.Idx → Elt F e} {hx : (M.access r).Stores Finset.univ} {hm : (Finset.univ : Finset r.shape.Idx) = Finset.univ ∨ ∀ a, r.stride a = 1}
    {Q : α → sProp 𝕄} {k : PUnit → Prog (TpuEff nD τ sig (Elt F) Λ .tc) α}
    {f : Buf (Elt F) (M.view.loc (c : Thread nD τ))} (g : Buf (Elt F) (M.view.loc (c : Thread nD τ)))
    (hg : M.view.readAt (Elt F) r.toLoadRect g = w) :
    (pt c (M.slice r hr) fullShare f : sProp 𝕄)
      ⊢ iprop((pt c (M.slice r hr) fullShare g -∗ wp frame (wpE defs Variants.none (c : Thread nD τ) none) Set.univ (k ⟨⟩) Q)
        -∗ wp frame (wpE defs Variants.none (c : Thread nD τ) none) Set.univ (.op (.store M r w Finset.univ hx hm) k) Q) := by
  have e := pt_write (F := F) (U := U) c (M.slice r hr) fullShare (f := f) (g := g) (w := w) hg
  unfold pt at e ⊢
  iintro Hp Hk
  iapply (wp_store Variants.none (c : Thread nD τ) none Set.univ (m := M) (r := r) (w := w) (hx := hx) (hm := hm) (k := k) (f := f) (le_refl _)) $$ [Hp]
  · iexact Hp
  iintro Hp
  iapply Hk
  iapply (Entails.of_eq e)
  iexact Hp

/-- A load of any rectangle of a buffer held whole. -/
theorem ld_whole {cs : CoreSpace} {M : Memref sig .tc cs s e} {r : Rect s} {hl : M.view.LoadsAt r}
    {Q : α → sProp 𝕄} {k : (r.shape.Idx → Elt F e) → Prog (TpuEff nD τ sig (Elt F) Λ .tc) α} {q : PosShare TreeShare}
    {f : Buf (Elt F) (M.view.loc (c : Thread nD τ))} (hM : M.view.set = Finset.univ)
    {x : r.shape.Idx → Elt F e} (hx : M.view.readAt (Elt F) r.toLoadRect f = x) :
    (pt c M q f : sProp 𝕄)
      ⊢ iprop((pt c M q f -∗ wp frame (wpE defs Variants.none (c : Thread nD τ) none) Set.univ (k x) Q)
        -∗ wp frame (wpE defs Variants.none (c : Thread nD τ) none) Set.univ (.op (.load M r.toLoadRect hl) k) Q) := by
  subst hx
  unfold pt
  rw [hM]
  exact wp_load_rect Variants.none (c : Thread nD τ) none Set.univ (m := M) (r := r) (hl := hl) (k := k) (f := f) (Finset.subset_univ _)

/-- A store over the whole of a buffer held whole. -/
theorem st_whole {cs : CoreSpace} {M : Memref sig .tc cs s e} {r : Rect s}
    {w : r.shape.Idx → Elt F e} {hx : (M.access r).Stores Finset.univ} {hm : (Finset.univ : Finset r.shape.Idx) = Finset.univ ∨ ∀ a, r.stride a = 1}
    {Q : α → sProp 𝕄} {k : PUnit → Prog (TpuEff nD τ sig (Elt F) Λ .tc) α}
    {f : Buf (Elt F) (M.view.loc (c : Thread nD τ))} (g : Buf (Elt F) (M.view.loc (c : Thread nD τ)))
    (hM : M.view.set = Finset.univ)
    (hg : (M.access r).write (Elt F) f w Finset.univ = g) :
    (pt c M fullShare f : sProp 𝕄)
      ⊢ iprop((pt c M fullShare g -∗ wp frame (wpE defs Variants.none (c : Thread nD τ) none) Set.univ (k ⟨⟩) Q)
        -∗ wp frame (wpE defs Variants.none (c : Thread nD τ) none) Set.univ (.op (.store M r w Finset.univ hx hm) k) Q) := by
  subst hg
  unfold pt
  rw [hM]
  exact wp_store Variants.none (c : Thread nD τ) none Set.univ (m := M) (r := r) (w := w) (hx := hx) (hm := hm) (k := k) (f := f) (Finset.subset_univ _)

variable (EC : UEmb Counters (MT nD τ sig Unit (Elt F) ℕ U ℕ)) [EC.LandsIn (upEmb : UEmb _ (MT nD τ sig Unit (Elt F) ℕ U ℕ))]

/-- A device's copy between two of its own pieces: in flight it carries both back, the target at the contents of the source. -/
theorem cp {src : Memref sig .tc sp s e} {dst : Memref sig .tc sp' s e} {sm : SemLoc sig}
    {hsrc : src.view.WordExact} {hdst : dst.view.WordExact} {hsem : DmaTarget.Typed (nD := nD) (τ := τ) (p := (Dev.tc c : Thread nD τ).2) sp sm (.here dst)}
    {Q : α → sProp 𝕄} {k : PUnit → Prog (TpuEff nD τ sig (Elt F) Λ .tc) α} {q : PosShare TreeShare} {fs : Buf (Elt F) (src.view.loc (c : Thread nD τ))}
    {fd : Buf (Elt F) (dst.view.loc (c : Thread nD τ))} (g : Buf (Elt F) (dst.view.loc (c : Thread nD τ)))
    (hN0 : 0 < dst.view.amount sm) (hg : dst.view.read (Elt F) g = src.view.read (Elt F) fs) :
    iprop(pt c src q fs ∗ pt c dst fullShare fd ∗ semVal ((c : Thread nD τ), sm) 0)
      ⊢ iprop((Transfers.Flight EC (c : Thread nD τ) sm () (dst.view.amount sm) iprop(pt c dst fullShare g ∗ pt c src q fs)
              -∗ wp frame (wpE defs Variants.none (c : Thread nD τ) none) Set.univ (k ⟨⟩) Q)
        -∗ wp frame (wpE defs Variants.none (c : Thread nD τ) none) Set.univ (.op (.enqueueDma src (.here dst) sm hsrc hdst hsem) k) Q) := by
  have ew := pt_write (F := F) (U := U) c dst fullShare (f := fd) hg
  iintro ⟨Hs, Hd, Hz⟩ Hk
  unfold pt at ew ⊢
  iapply (Transfers.wp_dmaLocal EC Variants.none (c : Thread nD τ) none (src := src) (via := .same) (dst := dst) (sm := sm) (hsrc := hsrc) (hdst := hdst)
    (hsem := hsem) (k := k) (q := q) (fs := fs) (Sd := dst.view.set) (fd := fd) () (dst.view.amount sm) rfl hN0 (le_refl _)) $$ [Hs Hd Hz]
  · isplitl [Hs]; · iexact Hs
    isplitl [Hd] <;> iassumption
  iintro Hf
  iapply Hk
  iapply (Transfers.Flight_mono EC (c : Thread nD τ) (D := iprop((dst.view.loc (c : Thread nD τ) ↦[dst.view.set]{fullShare} (dst.view.write (Elt F) fd (ReadAs.same.apply (src.view.read (Elt F) fs)) Finset.univ))
                                    ∗ (src.view.loc (c : Thread nD τ) ↦[src.view.set]{q} fs))) (sep_mono_left (Entails.of_eq ew)))
  iexact Hf

/-- The wait for a copy of the device's own. -/
theorem cp_wait {κ' : Kind} {sem : DmaSem sig} {s₁ : Shape} {e₁ : EltTy}
    {srcw : Memref sig .tc sp' s₁ e₁} {dstw : Memref sig κ' sp s e} {hsrc : srcw.view.WordExact} {hdst : dstw.view.WordExact}
    {Q : α → sProp 𝕄} {k : PUnit → Prog (TpuEff nD τ sig (Elt F) Λ .tc) α} {N : ℕ} (hN : dstw.view.dmaCredit = N) {D : sProp 𝕄}
    {O : CellTallies nD τ sig Unit} :
    iprop(Transfers.Flight EC (c : Thread nD τ) (.dma sem) () N D ∗ (∃ W, owes (c : Thread nD τ) O W) ∗ MayWait (c : Thread nD τ) (.dma sem) () O)
      ⊢ iprop((iprop(D ∗ semVal ((c : Thread nD τ), .dma sem) 0 ∗ ∃ W, owes (c : Thread nD τ) O W)
              -∗ wp frame (wpE defs Variants.none (c : Thread nD τ) none) Set.univ (k ⟨⟩) Q)
        -∗ wp frame (wpE defs Variants.none (c : Thread nD τ) none) Set.univ (.op (.waitDma2 sem srcw dstw hsrc hdst) k) Q) := by
  iintro ⟨Hf, ⟨%W, Ho⟩, Hm⟩ Hk
  iapply (Transfers.wp_waitLocalO EC Variants.none (c : Thread nD τ) none (sem := sem) (srcw := srcw) (dstw := dstw) (hsrc := hsrc) (hdst := hdst) (k := k)
    () hN (D := D) (O := O) (W := W)) $$ [Hf Ho Hm]
  · isplitl [Hf]; · iexact Hf
    isplitl [Ho] <;> iassumption
  iintro ⟨HD, Hz, Ho⟩
  iapply Hk
  isplitl [HD]; · iexact HD
  isplitl [Hz]; · iexact Hz
  iexists _; iexact Ho

end Run

end Cert.Steps
-- ==== Proof.IdealProto.lean ====
/-
# The protocol between the four devices

Device `c` has a right neighbour `rt c`, a left neighbour `lf c` and an opposite device `op c`.

* The BARRIER cell of a device has three duties of one unit each, paid by its right neighbour (duty 0), its left neighbour (duty 1)
  and the opposite device (duty 2). Each payer hands over its own landing places for what this device will send it: the receive slot
  of the same number (the opposite device both halves of slot 2) and the maximum slot of that number.
* A SEND cell is raised by the device's own transfer leaving; it hands the source piece back, at the contents it was sent with.
* A RECEIVE cell is raised by the sender's transfer landing: slot 0 from the left neighbour, slot 1 from the right neighbour, slot 2
  in two halves from the opposite device. It hands over the landing piece at the sender's block.
* The two families for the MAXIMA go the same way: slot `j` of the maxima of a device holds what the sender of receive slot `j` found.

Every cell has one round.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Steps

@[expose] public section

noncomputable section

namespace Cert.KernelIdeal.Hand

open Cert.KernelIdeal Cert.KernelIdeal.Gen Cert.Steps

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The ghost state: the pipeline library's, the rounds', the counters of local copies -/

abbrev Duty : Type := Fin 3
abbrev UB : Type := URounds (GSem nD τ sig) Duty
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev EC : UEmb Counters (MT nD τ sig Unit (Elt F) ℕ UU ℕ) := countersEmb

variable (m : (ℓ : Loc nD τ sig) → Buf (Elt F) ℓ)

/-! ## The devices a device deals with -/

set_option backward.proofsInPublic true in
/-- The right neighbour. -/
def rt (c : Dev nD) : Dev nD := ⟨(c.val + 1) % 4, Nat.mod_lt _ (by decide)⟩
set_option backward.proofsInPublic true in
/-- The left neighbour. -/
def lf (c : Dev nD) : Dev nD := ⟨(c.val + 3) % 4, Nat.mod_lt _ (by decide)⟩
set_option backward.proofsInPublic true in
/-- The opposite device. -/
def op (c : Dev nD) : Dev nD := ⟨(c.val + 2) % 4, Nat.mod_lt _ (by decide)⟩

theorem lf_rt (c : Dev nD) : lf (rt c) = c := by revert c; decide
theorem rt_lf (c : Dev nD) : rt (lf c) = c := by revert c; decide
theorem op_op (c : Dev nD) : op (op c) = c := by revert c; decide

theorem dev1_eq (c : Dev nD) : (⟨k0_dev1 c, k0_dev1_lt c⟩ : Dev nD) = lf c := by revert c; decide +kernel
theorem dev2_eq (c : Dev nD) : (⟨k0_dev2 c, k0_dev2_lt c⟩ : Dev nD) = rt c := by revert c; decide +kernel
theorem dev3_eq (c : Dev nD) : (⟨k0_dev3 c, k0_dev3_lt c⟩ : Dev nD) = op c := by revert c; decide +kernel
theorem dev4_eq (c : Dev nD) : (⟨k0_dev4 c, k0_dev4_lt c⟩ : Dev nD) = rt c := by revert c; decide +kernel
theorem dev5_eq (c : Dev nD) : (⟨k0_dev5 c, k0_dev5_lt c⟩ : Dev nD) = lf c := by revert c; decide +kernel
theorem dev6_eq (c : Dev nD) : (⟨k0_dev6 c, k0_dev6_lt c⟩ : Dev nD) = op c := by revert c; decide +kernel
theorem dev7_eq (c : Dev nD) : (⟨k0_dev7 c, k0_dev7_lt c⟩ : Dev nD) = op c := by revert c; decide +kernel
theorem dev8_eq (c : Dev nD) : (⟨k0_dev8 c, k0_dev8_lt c⟩ : Dev nD) = rt c := by revert c; decide +kernel
theorem dev9_eq (c : Dev nD) : (⟨k0_dev9 c, k0_dev9_lt c⟩ : Dev nD) = lf c := by revert c; decide +kernel
theorem dev10_eq (c : Dev nD) : (⟨k0_dev10 c, k0_dev10_lt c⟩ : Dev nD) = op c := by revert c; decide +kernel

/-! ## The pieces -/

abbrev xM : Memref sig .tc .hbm S4096x1024 .f32 := Memref.whole main_arg0
abbrev wM : Memref sig .tc .hbm S4096x2048 .f32 := Memref.whole main_arg1
abbrev oM : Memref sig .tc .hbm S1024x2048 .f32 := Memref.whole main_v1
abbrev xsM : Memref sig .tc .vmem S2x1024x1024 .f32 := Memref.whole cc0_scratch0
abbrev sbM : Memref sig .tc .vmem S4x1024x1024 .bf16 := Memref.whole cc0_scratch1
abbrev rbM : Memref sig .tc .vmem S3x1024x1024 .bf16 := Memref.whole cc0_scratch2
abbrev wsM : Memref sig .tc .vmem S1024x2048 .f32 := Memref.whole cc0_scratch3
abbrev wbM : Memref sig .tc .vmem S1024x2048 .bf16 := Memref.whole cc0_scratch4
abbrev yM : Memref sig .tc .vmem S1024x2048 .f32 := Memref.whole cc0_scratch5
abbrev amM : Memref sig .tc .vmem S4x8x128 .f32 := Memref.whole cc0_scratch6

/-- The blocks of rows of `x` a device reads for its right neighbour, its left neighbour, the opposite device and itself. -/
abbrev xR (c : Dev nD) : Memref sig .tc .hbm S1024x1024 .f32 := (xM).slice (Rect.unit (s := S4096x1024) (k0_off1 c 1#32) S1024x1024.size (k0_off1_inb c 0)) (fun _ => rfl)
abbrev xL (c : Dev nD) : Memref sig .tc .hbm S1024x1024 .f32 := (xM).slice (Rect.unit (s := S4096x1024) (k0_off2 c) S1024x1024.size (k0_off2_inb c)) (fun _ => rfl)
abbrev xO (c : Dev nD) : Memref sig .tc .hbm S1024x1024 .f32 := (xM).slice (Rect.unit (s := S4096x1024) (k0_off1 c 2#32) S1024x1024.size (k0_off1_inb c 1)) (fun _ => rfl)
abbrev xC (c : Dev nD) : Memref sig .tc .hbm S1024x1024 .f32 := (xM).slice (Rect.unit (s := S4096x1024) (k0_off3 c) S1024x1024.size (k0_off3_inb c)) (fun _ => rfl)
/-- The blocks of rows of `w` a device reads: its own, its left neighbour's, its right neighbour's, the opposite device's. -/
abbrev wC (c : Dev nD) : Memref sig .tc .hbm S1024x2048 .f32 := (wM).slice (Rect.unit (s := S4096x2048) (k0_off4 c) S1024x2048.size (k0_off4_inb c)) (fun _ => rfl)
abbrev wL (c : Dev nD) : Memref sig .tc .hbm S1024x2048 .f32 := (wM).slice (Rect.unit (s := S4096x2048) (k0_off5 c) S1024x2048.size (k0_off5_inb c)) (fun _ => rfl)
abbrev wR (c : Dev nD) : Memref sig .tc .hbm S1024x2048 .f32 := (wM).slice (Rect.unit (s := S4096x2048) (k0_off6 c 1#32) S1024x2048.size (k0_off6_inb c 0)) (fun _ => rfl)
abbrev wO (c : Dev nD) : Memref sig .tc .hbm S1024x2048 .f32 := (wM).slice (Rect.unit (s := S4096x2048) (k0_off6 c 2#32) S1024x2048.size (k0_off6_inb c 1)) (fun _ => rfl)

/-- The two staging slots of `x`, -/
abbrev xs0 : Memref sig .tc .vmem S1024x1024 .f32 := ((xsM).slice (Rect.unit (s := S2x1024x1024) ![0, 0, 0] S1x1024x1024.size inb_S2x1024x1024_S1x1024x1024_0_0_0) (fun _ => rfl)).squeeze S1024x1024 squeezes_S1x1024x1024_S1024x1024
abbrev xs1 : Memref sig .tc .vmem S1024x1024 .f32 := ((xsM).slice (Rect.unit (s := S2x1024x1024) ![1, 0, 0] S1x1024x1024.size inb_S2x1024x1024_S1x1024x1024_1_0_0) (fun _ => rfl)).squeeze S1024x1024 squeezes_S1x1024x1024_S1024x1024
/-- the four slots of what is sent, the third also in halves, -/
abbrev sb0 : Memref sig .tc .vmem S1024x1024 .bf16 := ((sbM).slice (Rect.unit (s := S4x1024x1024) ![0, 0, 0] S1x1024x1024.size inb_S4x1024x1024_S1x1024x1024_0_0_0) (fun _ => rfl)).squeeze S1024x1024 squeezes_S1x1024x1024_S1024x1024
abbrev sb1 : Memref sig .tc .vmem S1024x1024 .bf16 := ((sbM).slice (Rect.unit (s := S4x1024x1024) ![1, 0, 0] S1x1024x1024.size inb_S4x1024x1024_S1x1024x1024_1_0_0) (fun _ => rfl)).squeeze S1024x1024 squeezes_S1x1024x1024_S1024x1024
abbrev sb2 : Memref sig .tc .vmem S1x1024x1024 .bf16 := (sbM).slice (Rect.unit (s := S4x1024x1024) ![2, 0, 0] S1x1024x1024.size inb_S4x1024x1024_S1x1024x1024_2_0_0) (fun _ => rfl)
abbrev sb3 : Memref sig .tc .vmem S1x1024x1024 .bf16 := (sbM).slice (Rect.unit (s := S4x1024x1024) ![3, 0, 0] S1x1024x1024.size inb_S4x1024x1024_S1x1024x1024_3_0_0) (fun _ => rfl)
abbrev sb2a : Memref sig .tc .vmem S512x1024 .bf16 := ((sbM).slice (Rect.unit (s := S4x1024x1024) ![2, 0, 0] S1x512x1024.size inb_S4x1024x1024_S1x512x1024_2_0_0) (fun _ => rfl)).squeeze S512x1024 squeezes_S1x512x1024_S512x1024
abbrev sb2b : Memref sig .tc .vmem S512x1024 .bf16 := ((sbM).slice (Rect.unit (s := S4x1024x1024) ![2, 512, 0] S1x512x1024.size inb_S4x1024x1024_S1x512x1024_2_512_0) (fun _ => rfl)).squeeze S512x1024 squeezes_S1x512x1024_S512x1024
/-- the receive slots, the last in halves, -/
abbrev rb0 : Memref sig .tc .vmem S1024x1024 .bf16 := ((rbM).slice (Rect.unit (s := S3x1024x1024) ![0, 0, 0] S1x1024x1024.size inb_S3x1024x1024_S1x1024x1024_0_0_0) (fun _ => rfl)).squeeze S1024x1024 squeezes_S1x1024x1024_S1024x1024
abbrev rb1 : Memref sig .tc .vmem S1024x1024 .bf16 := ((rbM).slice (Rect.unit (s := S3x1024x1024) ![1, 0, 0] S1x1024x1024.size inb_S3x1024x1024_S1x1024x1024_1_0_0) (fun _ => rfl)).squeeze S1024x1024 squeezes_S1x1024x1024_S1024x1024
abbrev rb2a : Memref sig .tc .vmem S512x1024 .bf16 := ((rbM).slice (Rect.unit (s := S3x1024x1024) ![2, 0, 0] S1x512x1024.size inb_S3x1024x1024_S1x512x1024_2_0_0) (fun _ => rfl)).squeeze S512x1024 squeezes_S1x512x1024_S512x1024
abbrev rb2b : Memref sig .tc .vmem S512x1024 .bf16 := ((rbM).slice (Rect.unit (s := S3x1024x1024) ![2, 512, 0] S1x512x1024.size inb_S3x1024x1024_S1x512x1024_2_512_0) (fun _ => rfl)).squeeze S512x1024 squeezes_S1x512x1024_S512x1024
/-- the four slots of maxima, -/
abbrev am0 : Memref sig .tc .vmem S8x128 .f32 := ((amM).slice (Rect.unit (s := S4x8x128) ![0, 0, 0] S1x8x128.size inb_S4x8x128_S1x8x128_0_0_0) (fun _ => rfl)).squeeze S8x128 squeezes_S1x8x128_S8x128
abbrev am1 : Memref sig .tc .vmem S8x128 .f32 := ((amM).slice (Rect.unit (s := S4x8x128) ![1, 0, 0] S1x8x128.size inb_S4x8x128_S1x8x128_1_0_0) (fun _ => rfl)).squeeze S8x128 squeezes_S1x8x128_S8x128
abbrev am2 : Memref sig .tc .vmem S8x128 .f32 := ((amM).slice (Rect.unit (s := S4x8x128) ![2, 0, 0] S1x8x128.size inb_S4x8x128_S1x8x128_2_0_0) (fun _ => rfl)).squeeze S8x128 squeezes_S1x8x128_S8x128
abbrev am3 : Memref sig .tc .vmem S8x128 .f32 := ((amM).slice (Rect.unit (s := S4x8x128) ![3, 0, 0] S1x8x128.size inb_S4x8x128_S1x8x128_3_0_0) (fun _ => rfl)).squeeze S8x128 squeezes_S1x8x128_S8x128
/-- the halves and the quarters of the sums, -/
abbrev yA : Memref sig .tc .vmem S512x2048 .f32 := (yM).slice (Rect.unit (s := S1024x2048) ![0, 0] S512x2048.size inb_S1024x2048_S512x2048_0_0) (fun _ => rfl)
abbrev yB : Memref sig .tc .vmem S512x2048 .f32 := (yM).slice (Rect.unit (s := S1024x2048) ![512, 0] S512x2048.size inb_S1024x2048_S512x2048_512_0) (fun _ => rfl)
abbrev yq0 : Memref sig .tc .vmem S256x2048 .f32 := (yM).slice (Rect.unit (s := S1024x2048) ![0, 0] S256x2048.size inb_S1024x2048_S256x2048_0_0) (fun _ => rfl)
abbrev yq1 : Memref sig .tc .vmem S256x2048 .f32 := (yM).slice (Rect.unit (s := S1024x2048) ![256, 0] S256x2048.size inb_S1024x2048_S256x2048_256_0) (fun _ => rfl)
abbrev yq2 : Memref sig .tc .vmem S256x2048 .f32 := (yM).slice (Rect.unit (s := S1024x2048) ![512, 0] S256x2048.size inb_S1024x2048_S256x2048_512_0) (fun _ => rfl)
abbrev yq3 : Memref sig .tc .vmem S256x2048 .f32 := (yM).slice (Rect.unit (s := S1024x2048) ![768, 0] S256x2048.size inb_S1024x2048_S256x2048_768_0) (fun _ => rfl)
/-- and the quarters of the result. -/
abbrev oq0 : Memref sig .tc .hbm S256x2048 .f32 := (oM).slice (Rect.unit (s := S1024x2048) ![0, 0] S256x2048.size inb_S1024x2048_S256x2048_0_0) (fun _ => rfl)
abbrev oq1 : Memref sig .tc .hbm S256x2048 .f32 := (oM).slice (Rect.unit (s := S1024x2048) ![256, 0] S256x2048.size inb_S1024x2048_S256x2048_256_0) (fun _ => rfl)
abbrev oq2 : Memref sig .tc .hbm S256x2048 .f32 := (oM).slice (Rect.unit (s := S1024x2048) ![512, 0] S256x2048.size inb_S1024x2048_S256x2048_512_0) (fun _ => rfl)
abbrev oq3 : Memref sig .tc .hbm S256x2048 .f32 := (oM).slice (Rect.unit (s := S1024x2048) ![768, 0] S256x2048.size inb_S1024x2048_S256x2048_768_0) (fun _ => rfl)

/-! ## The contents -/

/-- The element of a slot at a row and a column; of a half slot; of a matrix. -/
def ixS (i j : Fin 1024) : S1x1024x1024.Idx := fun a => match a with | 0 => (0 : Fin 1) | 1 => i | 2 => j
def ixM (i : Fin 8) (j : Fin 128) : S1x8x128.Idx := fun a => match a with | 0 => (0 : Fin 1) | 1 => i | 2 => j
def ixH (i : Fin 512) (j : Fin 2048) : S512x2048.Idx := fun a => match a with | 0 => i | 1 => j
def ixQ (i : Fin 256) (j : Fin 2048) : S256x2048.Idx := fun a => match a with | 0 => i | 1 => j
def ixY (i : Fin 1024) (j : Fin 2048) : S1024x2048.Idx := fun a => match a with | 0 => i | 1 => j

/-- A stack of slots every one of which holds `X`. -/
def up {n : ℕ} {α : Type} (X : S1x1024x1024.Idx → α) : (⟨3, ![n, 1024, 1024]⟩ : Shape).Idx → α := fun i => X (ixS (i 1) (i 2))
/-- The first and the last 512 rows of a slot. -/
def hiA {α : Type} (X : S1x1024x1024.Idx → α) : S1x512x1024.Idx → α := fun i => X (ixS (⟨(i 1).val, by have := (i 1).isLt; change (i 1).val < 512 at this; omega⟩) (i 2))
def hiB {α : Type} (X : S1x1024x1024.Idx → α) : S1x512x1024.Idx → α := fun i => X (ixS (⟨512 + (i 1).val, by have := (i 1).isLt; change (i 1).val < 512 at this; omega⟩) (i 2))
/-- The rows of a matrix from `512 h` on, and from `256 k` on. -/
def half {α : Type} (h : Fin 2) (Y : S1024x2048.Idx → α) : S512x2048.Idx → α := fun i => Y (ixY (⟨512 * h.val + (i 0).val, by have := (i 0).isLt; change (i 0).val < 512 at this; omega⟩) (i 1))
def quart {α : Type} (k : Fin 4) (Y : S1024x2048.Idx → α) : S256x2048.Idx → α := fun i => Y (ixY (⟨256 * k.val + (i 0).val, by have := (i 0).isLt; change (i 0).val < 256 at this; omega⟩) (i 1))
/-- Two halves, four quarters put together. -/
def ofHalves {α : Type} (A B : S512x2048.Idx → α) : S1024x2048.Idx → α := fun i =>
  if h : (i 0).val < 512 then A (ixH ⟨(i 0).val, h⟩ (i 1)) else B (ixH ⟨(i 0).val - 512, by have := (i 0).isLt; change (i 0).val < 1024 at this; omega⟩ (i 1))
def ofQuarts {α : Type} (Z : Fin 4 → S256x2048.Idx → α) : S1024x2048.Idx → α := fun i =>
  Z ⟨(i 0).val / 256, by have := (i 0).isLt; change (i 0).val < 1024 at this; omega⟩ (ixQ ⟨(i 0).val % 256, Nat.mod_lt _ (by decide)⟩ (i 1))

/-- Device `c`'s block of columns of `x`, and its copy of `w`. -/
def xin (c : Dev nD) : Buf (Elt F) ((xM).view.loc (c : Thread nD τ)) := m ((c : Thread nD τ).loc main_arg0)
def win (c : Dev nD) : Buf (Elt F) ((wM).view.loc (c : Thread nD τ)) := m ((c : Thread nD τ).loc main_arg1)

/-- The rows of `x` staged for the right neighbour, the left neighbour, the opposite device and the device itself. -/
def bR (c : Dev nD) : Vec F S1x1024x1024 .f32 := shapeCast S1x1024x1024 ((xR c).view.read (Elt F) (xin m c)) shapeCasts_S1024x1024_S1x1024x1024
def bL (c : Dev nD) : Vec F S1x1024x1024 .f32 := shapeCast S1x1024x1024 ((xL c).view.read (Elt F) (xin m c)) shapeCasts_S1024x1024_S1x1024x1024
def bO (c : Dev nD) : Vec F S1x1024x1024 .f32 := shapeCast S1x1024x1024 ((xO c).view.read (Elt F) (xin m c)) shapeCasts_S1024x1024_S1x1024x1024
def bC (c : Dev nD) : Vec F S1x1024x1024 .f32 := shapeCast S1x1024x1024 ((xC c).view.read (Elt F) (xin m c)) shapeCasts_S1024x1024_S1x1024x1024
/-- The same rounded, as they are sent and used. -/
def sR (c : Dev nD) : Vec F S1x1024x1024 .bf16 := k0_pay1 (bR m c)
def sL (c : Dev nD) : Vec F S1x1024x1024 .bf16 := k0_pay2 (bL m c)
def sO (c : Dev nD) : Vec F S1x1024x1024 .bf16 := k0_pay4 (k0_pay3 (bO m c))
def sC (c : Dev nD) : Vec F S1x1024x1024 .bf16 := k0_pay5 (bC m c)
/-- The blocks of rows of `w` staged, -/
def vC (c : Dev nD) : Vec F S1024x2048 .f32 := (wC c).view.read (Elt F) (win m c)
def vL (c : Dev nD) : Vec F S1024x2048 .f32 := (wL c).view.read (Elt F) (win m c)
def vR (c : Dev nD) : Vec F S1024x2048 .f32 := (wR c).view.read (Elt F) (win m c)
def vO (c : Dev nD) : Vec F S1024x2048 .f32 := (wO c).view.read (Elt F) (win m c)
/-- and rounded. -/
def uC (c : Dev nD) : Vec F S1024x2048 .bf16 := k0_pay6 (vC m c)
def uL (c : Dev nD) : Vec F S1024x2048 .bf16 := k0_pay9 (k0_pay8 (vL m c))
def uR (c : Dev nD) : Vec F S1024x2048 .bf16 := k0_pay12 (k0_pay11 (vR m c))
def uO (c : Dev nD) : Vec F S1024x2048 .bf16 := k0_pay14 (vO m c)
/-- The running sum after one, two and three blocks, and its halves after the fourth. -/
def y0 (c : Dev nD) : Vec F S1024x2048 .f32 := k0_pay7 (sC m c) (uC m c)
def y1 (c : Dev nD) : Vec F S1024x2048 .f32 := k0_pay10 (y0 m c) (sR m (lf c)) (uL m c)
def y2 (c : Dev nD) : Vec F S1024x2048 .f32 := k0_pay13 (y1 m c) (sL m (rt c)) (uR m c)
def yTop (c : Dev nD) : Vec F S512x2048 .f32 := k0_pay15 (half 0 (y2 m c)) (hiA (sO m (op c))) (uO m c)
def yBot (c : Dev nD) : Vec F S512x2048 .f32 := k0_pay17 (half 1 (y2 m c)) (hiB (sO m (op c))) (uO m c)
def y3 (c : Dev nD) : Vec F S1024x2048 .f32 := ofHalves (yTop m c) (yBot m c)
/-- The device's own maximum, in every element of a slot; -/
def amx (c : Dev nD) : Vec F S1x8x128 .f32 := k0_pay19 (k0_pay16 (yTop m c)) (k0_pay18 (yBot m c))
/-- the four slots: the left neighbour's, the right neighbour's, the opposite device's, its own. -/
def amAll (c : Dev nD) : Vec F S4x8x128 .f32 := fun i => amx m (![lf c, rt c, op c, c] (i 0)) (ixM (i 1) (i 2))
/-- The quarters of the result, and the result. -/
def outQ (c : Dev nD) : Fin 4 → Vec F S256x2048 .f32 := fun
  | 0 => k0_pay24 (k0_pay21 (amAll m c)) (k0_pay22 (amAll m c)) (k0_pay23 (quart 0 (y3 m c)))
  | 1 => k0_pay25 (k0_pay21 (amAll m c)) (k0_pay22 (amAll m c)) (quart 1 (y3 m c))
  | 2 => k0_pay26 (k0_pay21 (amAll m c)) (k0_pay22 (amAll m c)) (quart 2 (y3 m c)) (Scalar.ofBits .f32 0x00000000#32)
  | 3 => k0_pay27 (k0_pay21 (amAll m c)) (k0_pay22 (amAll m c)) (quart 3 (y3 m c))
def out (c : Dev nD) : Vec F S1024x2048 .f32 := ofQuarts (outQ m c)

end Cert.KernelIdeal.Hand
-- ==== Proof.IdealPieces.lean ====
/-
# What the pieces hold
-/
module

public import proofs.«01_k».proof.Proof.IdealProto
public import Idealize.ShloMosaic.Lib.Pipeline.Value

@[expose] public section

noncomputable section

namespace Cert.KernelIdeal.Hand

open Cert.KernelIdeal Cert.KernelIdeal.Gen Cert.Steps

open Idealize.ShloMosaic Idealize.ShloMosaic.Pipeline
open Idealize.ShloMosaic.TcCoe

variable {F : FTy → Type} [FloatOps F] [Named F]
variable (m : (ℓ : Loc nD τ sig) → Buf (Elt F) ℓ)

/-! ## Reading a rectangle of a whole buffer -/

/-- A slot of a stack. -/
theorem up_slot {n : ℕ} {α : Type} (k : ℕ) (inb) (X : S1x1024x1024.Idx → α) (i : S1x1024x1024.Idx) :
    up (n := n) X ((Rect.unit (s := ⟨3, ![n, 1024, 1024]⟩) ![k, 0, 0] S1x1024x1024.size inb).idx i) = X i := by
  show X _ = X i
  congr 1
  funext a
  match a with
  | 0 => exact Fin.ext (by have := (i 0).isLt; change (i 0).val < 1 at this; show 0 = (i 0).val; omega)
  | 1 => exact Fin.ext (by show 0 + 1 * (i 1).val = (i 1).val; omega)
  | 2 => exact Fin.ext (by show 0 + 1 * (i 2).val = (i 2).val; omega)

/-- The first and the last half of a slot of a stack. -/
theorem up_hiA {n : ℕ} {α : Type} (k : ℕ) (inb) (X : S1x1024x1024.Idx → α) (i : S1x512x1024.Idx) :
    up (n := n) X ((Rect.unit (s := ⟨3, ![n, 1024, 1024]⟩) ![k, 0, 0] S1x512x1024.size inb).idx i) = hiA X i := by
  show X _ = X _
  congr 1
  funext a
  match a with
  | 0 => rfl
  | 1 => exact Fin.ext (by show 0 + 1 * (i 1).val = (i 1).val; omega)
  | 2 => exact Fin.ext (by show 0 + 1 * (i 2).val = (i 2).val; omega)
theorem up_hiB {n : ℕ} {α : Type} (k : ℕ) (inb) (X : S1x1024x1024.Idx → α) (i : S1x512x1024.Idx) :
    up (n := n) X ((Rect.unit (s := ⟨3, ![n, 1024, 1024]⟩) ![k, 512, 0] S1x512x1024.size inb).idx i) = hiB X i := by
  show X _ = X _
  congr 1
  funext a
  match a with
  | 0 => rfl
  | 1 => exact Fin.ext (by show 512 + 1 * (i 1).val = 512 + (i 1).val; omega)
  | 2 => exact Fin.ext (by show 0 + 1 * (i 2).val = (i 2).val; omega)

/-- Rows of a matrix. -/
theorem half_rect {α : Type} (h : Fin 2) (o : ℕ) (ho : o = 512 * h.val) (inb) (Y : S1024x2048.Idx → α) (i : S512x2048.Idx) :
    Y ((Rect.unit (s := S1024x2048) ![o, 0] S512x2048.size inb).idx i) = half h Y i := by
  subst ho
  show Y _ = Y _
  congr 1
  funext a
  match a with
  | 0 => exact Fin.ext (by show 512 * h.val + 1 * (i 0).val = 512 * h.val + (i 0).val; omega)
  | 1 => exact Fin.ext (by show 0 + 1 * (i 1).val = (i 1).val; omega)
theorem quart_rect {α : Type} (k : Fin 4) (o : ℕ) (ho : o = 256 * k.val) (inb) (Y : S1024x2048.Idx → α) (i : S256x2048.Idx) :
    Y ((Rect.unit (s := S1024x2048) ![o, 0] S256x2048.size inb).idx i) = quart k Y i := by
  subst ho
  show Y _ = Y _
  congr 1
  funext a
  match a with
  | 0 => exact Fin.ext (by show 256 * k.val + 1 * (i 0).val = 256 * k.val + (i 0).val; omega)
  | 1 => exact Fin.ext (by show 0 + 1 * (i 1).val = (i 1).val; omega)

/-- The halves, the quarters, of what was put together of them. -/
theorem half_ofHalves_0 {α : Type} (A B : S512x2048.Idx → α) : half 0 (ofHalves A B) = A := by
  funext i
  have hi : (i 0).val < 512 := (i 0).isLt
  unfold half ofHalves
  rw [dif_pos (by show 512 * 0 + (i 0).val < 512; omega)]
  congr 1
  funext a
  match a with
  | 0 => exact Fin.ext (by show 512 * 0 + (i 0).val = (i 0).val; omega)
  | 1 => rfl
theorem half_ofHalves_1 {α : Type} (A B : S512x2048.Idx → α) : half 1 (ofHalves A B) = B := by
  funext i
  have hi : (i 0).val < 512 := (i 0).isLt
  unfold half ofHalves
  rw [dif_neg (by show ¬ 512 * 1 + (i 0).val < 512; omega)]
  congr 1
  funext a
  match a with
  | 0 => exact Fin.ext (by show 512 * 1 + (i 0).val - 512 = (i 0).val; omega)
  | 1 => rfl
theorem quart_ofQuarts {α : Type} (Z : Fin 4 → S256x2048.Idx → α) (k : Fin 4) : quart k (ofQuarts Z) = Z k := by
  funext i
  have hi : (i 0).val < 256 := (i 0).isLt
  have hk := k.isLt
  have h1 : (256 * k.val + (i 0).val) / 256 = k.val := by omega
  have h2 : (256 * k.val + (i 0).val) % 256 = (i 0).val := by omega
  unfold quart ofQuarts
  refine congr (congrArg (f := Z) (a₂ := k) (Fin.ext h1)) (funext fun a => ?_)
  match a with
  | 0 => exact Fin.ext h2
  | 1 => rfl

/-! ## The loads -/

theorem rd_xs0 (X : S1x1024x1024.Idx → Elt F .f32) :
    (xsM).view.readAt (Elt F) (Rect.unit (s := S2x1024x1024) ![0, 0, 0] S1x1024x1024.size inb_S2x1024x1024_S1x1024x1024_0_0_0).toLoadRect (up X) = X :=
  funext fun i => up_slot 0 _ X i
theorem rd_xs1 (X : S1x1024x1024.Idx → Elt F .f32) :
    (xsM).view.readAt (Elt F) (Rect.unit (s := S2x1024x1024) ![1, 0, 0] S1x1024x1024.size inb_S2x1024x1024_S1x1024x1024_1_0_0).toLoadRect (up X) = X :=
  funext fun i => up_slot 1 _ X i
theorem rd_sb0 (X : S1x1024x1024.Idx → Elt F .bf16) :
    (sbM).view.readAt (Elt F) (Rect.unit (s := S4x1024x1024) ![0, 0, 0] S1x1024x1024.size inb_S4x1024x1024_S1x1024x1024_0_0_0).toLoadRect (up X) = X :=
  funext fun i => up_slot 0 _ X i
theorem rd_sb1 (X : S1x1024x1024.Idx → Elt F .bf16) :
    (sbM).view.readAt (Elt F) (Rect.unit (s := S4x1024x1024) ![1, 0, 0] S1x1024x1024.size inb_S4x1024x1024_S1x1024x1024_1_0_0).toLoadRect (up X) = X :=
  funext fun i => up_slot 1 _ X i
theorem rd_sb2 (X : S1x1024x1024.Idx → Elt F .bf16) :
    (sbM).view.readAt (Elt F) (Rect.unit (s := S4x1024x1024) ![2, 0, 0] S1x1024x1024.size inb_S4x1024x1024_S1x1024x1024_2_0_0).toLoadRect (up X) = X :=
  funext fun i => up_slot 2 _ X i
theorem rd_sb3 (X : S1x1024x1024.Idx → Elt F .bf16) :
    (sbM).view.readAt (Elt F) (Rect.unit (s := S4x1024x1024) ![3, 0, 0] S1x1024x1024.size inb_S4x1024x1024_S1x1024x1024_3_0_0).toLoadRect (up X) = X :=
  funext fun i => up_slot 3 _ X i
theorem rd_sb2a (X : S1x1024x1024.Idx → Elt F .bf16) :
    (sbM).view.readAt (Elt F) (Rect.unit (s := S4x1024x1024) ![2, 0, 0] S1x512x1024.size inb_S4x1024x1024_S1x512x1024_2_0_0).toLoadRect (up X) = hiA X :=
  funext fun i => up_hiA 2 _ X i
theorem rd_sb2b (X : S1x1024x1024.Idx → Elt F .bf16) :
    (sbM).view.readAt (Elt F) (Rect.unit (s := S4x1024x1024) ![2, 512, 0] S1x512x1024.size inb_S4x1024x1024_S1x512x1024_2_512_0).toLoadRect (up X) = hiB X :=
  funext fun i => up_hiB 2 _ X i
theorem rd_rb0 (X : S1x1024x1024.Idx → Elt F .bf16) :
    (rbM).view.readAt (Elt F) (Rect.unit (s := S3x1024x1024) ![0, 0, 0] S1x1024x1024.size inb_S3x1024x1024_S1x1024x1024_0_0_0).toLoadRect (up X) = X :=
  funext fun i => up_slot 0 _ X i
theorem rd_rb1 (X : S1x1024x1024.Idx → Elt F .bf16) :
    (rbM).view.readAt (Elt F) (Rect.unit (s := S3x1024x1024) ![1, 0, 0] S1x1024x1024.size inb_S3x1024x1024_S1x1024x1024_1_0_0).toLoadRect (up X) = X :=
  funext fun i => up_slot 1 _ X i
theorem rd_rb2a (X : S1x1024x1024.Idx → Elt F .bf16) :
    (rbM).view.readAt (Elt F) (Rect.unit (s := S3x1024x1024) ![2, 0, 0] S1x512x1024.size inb_S3x1024x1024_S1x512x1024_2_0_0).toLoadRect (up X) = hiA X :=
  funext fun i => up_hiA 2 _ X i
theorem rd_rb2b (X : S1x1024x1024.Idx → Elt F .bf16) :
    (rbM).view.readAt (Elt F) (Rect.unit (s := S3x1024x1024) ![2, 512, 0] S1x512x1024.size inb_S3x1024x1024_S1x512x1024_2_512_0).toLoadRect (up X) = hiB X :=
  funext fun i => up_hiB 2 _ X i
theorem rd_yA (Y : S1024x2048.Idx → Elt F .f32) :
    (yM).view.readAt (Elt F) (Rect.unit (s := S1024x2048) ![0, 0] S512x2048.size inb_S1024x2048_S512x2048_0_0).toLoadRect Y = half 0 Y :=
  funext fun i => half_rect 0 0 rfl _ Y i
theorem rd_yB (Y : S1024x2048.Idx → Elt F .f32) :
    (yM).view.readAt (Elt F) (Rect.unit (s := S1024x2048) ![512, 0] S512x2048.size inb_S1024x2048_S512x2048_512_0).toLoadRect Y = half 1 Y :=
  funext fun i => half_rect 1 512 rfl _ Y i
theorem rd_q0 (Y : S1024x2048.Idx → Elt F .f32) :
    (yM).view.readAt (Elt F) (Rect.unit (s := S1024x2048) ![0, 0] S256x2048.size inb_S1024x2048_S256x2048_0_0).toLoadRect Y = quart 0 Y :=
  funext fun i => quart_rect 0 0 rfl _ Y i
theorem rd_q1 (Y : S1024x2048.Idx → Elt F .f32) :
    (yM).view.readAt (Elt F) (Rect.unit (s := S1024x2048) ![256, 0] S256x2048.size inb_S1024x2048_S256x2048_256_0).toLoadRect Y = quart 1 Y :=
  funext fun i => quart_rect 1 256 rfl _ Y i
theorem rd_q2 (Y : S1024x2048.Idx → Elt F .f32) :
    (yM).view.readAt (Elt F) (Rect.unit (s := S1024x2048) ![512, 0] S256x2048.size inb_S1024x2048_S256x2048_512_0).toLoadRect Y = quart 2 Y :=
  funext fun i => quart_rect 2 512 rfl _ Y i
theorem rd_q3 (Y : S1024x2048.Idx → Elt F .f32) :
    (yM).view.readAt (Elt F) (Rect.unit (s := S1024x2048) ![768, 0] S256x2048.size inb_S1024x2048_S256x2048_768_0).toLoadRect Y = quart 3 Y :=
  funext fun i => quart_rect 3 768 rfl _ Y i

/-- A slot of the maxima of device `c` holds the maximum of the device it belongs to. -/
theorem am_slot (c : Dev nD) (j : Fin 4) (inb) (i : S1x8x128.Idx) :
    amAll m c ((Rect.unit (s := S4x8x128) ![j.val, 0, 0] S1x8x128.size inb).idx i) = amx m (![lf c, rt c, op c, c] j) i := by
  have h0 : (i 0).val = 0 := by have := (i 0).isLt; change (i 0).val < 1 at this; omega
  unfold amAll
  refine congr (congrArg _ (congrArg _ (Fin.ext ?_))) ?_
  · show j.val + 1 * (i 0).val = j.val; omega
  · funext a
    match a with
    | 0 => exact Fin.ext (by show 0 = (i 0).val; omega)
    | 1 => exact Fin.ext (by show 0 + 1 * (i 1).val = (i 1).val; omega)
    | 2 => exact Fin.ext (by show 0 + 1 * (i 2).val = (i 2).val; omega)

theorem rd_am0 (c : Dev nD) :
    (amM).view.readAt (Elt F) (Rect.unit (s := S4x8x128) ![0, 0, 0] S1x8x128.size inb_S4x8x128_S1x8x128_0_0_0).toLoadRect (amAll m c) = amx m (lf c) :=
  funext fun i => am_slot m c 0 _ i
theorem rd_am1 (c : Dev nD) :
    (amM).view.readAt (Elt F) (Rect.unit (s := S4x8x128) ![1, 0, 0] S1x8x128.size inb_S4x8x128_S1x8x128_1_0_0).toLoadRect (amAll m c) = amx m (rt c) :=
  funext fun i => am_slot m c 1 _ i
theorem rd_am2 (c : Dev nD) :
    (amM).view.readAt (Elt F) (Rect.unit (s := S4x8x128) ![2, 0, 0] S1x8x128.size inb_S4x8x128_S1x8x128_2_0_0).toLoadRect (amAll m c) = amx m (op c) :=
  funext fun i => am_slot m c 2 _ i
theorem rd_am3 (c : Dev nD) :
    (amM).view.readAt (Elt F) (Rect.unit (s := S4x8x128) ![3, 0, 0] S1x8x128.size inb_S4x8x128_S1x8x128_3_0_0).toLoadRect (amAll m c) = amx m c :=
  funext fun i => am_slot m c 3 _ i

/-! ## The copies: what the target is left at reads as the source does -/

/-- A squeezed slot reads what a load of the slot does, the unit axis dropped. -/
theorem sq_read {κ : Kind} {sp : Space} {s s' : Shape} {e : EltTy} {M : Memref sig κ sp s e} {r : Rect s} {hr : ∀ a, r.stride a = 1}
    {hq : (r.shape).Squeezes s'} {f : M.view.ty.Contents (Elt F)} {X : r.shape.Idx → Elt F e} (hc : (r.shape).ShapeCasts s')
    (h : M.view.readAt (Elt F) r.toLoadRect f = X) : ((M.slice r hr).squeeze s' hq).view.read (Elt F) f = shapeCast s' X hc := by
  subst h; rfl

theorem cp_xs0 (V : S1024x1024.Idx → Elt F .f32) : (xs0).view.read (Elt F) (up (shapeCast S1x1024x1024 V shapeCasts_S1024x1024_S1x1024x1024)) = V :=
  (sq_read shapeCasts_S1x1024x1024_S1024x1024 (rd_xs0 _)).trans (shapeCast_shapeCast _ _ _)
theorem cp_xs1 (V : S1024x1024.Idx → Elt F .f32) : (xs1).view.read (Elt F) (up (shapeCast S1x1024x1024 V shapeCasts_S1024x1024_S1x1024x1024)) = V :=
  (sq_read shapeCasts_S1x1024x1024_S1024x1024 (rd_xs1 _)).trans (shapeCast_shapeCast _ _ _)

theorem send_0 (X : S1x1024x1024.Idx → Elt F .bf16) : (rb0).view.read (Elt F) (up X) = (sb0).view.read (Elt F) (up X) :=
  (sq_read shapeCasts_S1x1024x1024_S1024x1024 (rd_rb0 X)).trans (sq_read shapeCasts_S1x1024x1024_S1024x1024 (rd_sb0 X)).symm
theorem send_1 (X : S1x1024x1024.Idx → Elt F .bf16) : (rb1).view.read (Elt F) (up X) = (sb1).view.read (Elt F) (up X) :=
  (sq_read shapeCasts_S1x1024x1024_S1024x1024 (rd_rb1 X)).trans (sq_read shapeCasts_S1x1024x1024_S1024x1024 (rd_sb1 X)).symm
theorem send_2 (X : S1x1024x1024.Idx → Elt F .bf16) : (rb2a).view.read (Elt F) (up X) = (sb2a).view.read (Elt F) (up X) :=
  (sq_read (by decide) (rd_rb2a X)).trans (sq_read (by decide) (rd_sb2a X)).symm
theorem send_3 (X : S1x1024x1024.Idx → Elt F .bf16) : (rb2b).view.read (Elt F) (up X) = (sb2b).view.read (Elt F) (up X) :=
  (sq_read (by decide) (rd_rb2b X)).trans (sq_read (by decide) (rd_sb2b X)).symm

/-- What a device sends of its maximum is what the slot it lands in is to hold. -/
theorem send_am0 (c : Dev nD) : (am0).view.read (Elt F) (amAll m (rt c)) = (am3).view.read (Elt F) (amAll m c) := by
  rw [sq_read (by decide) (rd_am0 m (rt c)), sq_read (by decide) (rd_am3 m c), lf_rt]
theorem send_am1 (c : Dev nD) : (am1).view.read (Elt F) (amAll m (lf c)) = (am3).view.read (Elt F) (amAll m c) := by
  rw [sq_read (by decide) (rd_am1 m (lf c)), sq_read (by decide) (rd_am3 m c), rt_lf]
theorem send_am2 (c : Dev nD) : (am2).view.read (Elt F) (amAll m (op c)) = (am3).view.read (Elt F) (amAll m c) := by
  rw [sq_read (by decide) (rd_am2 m (op c)), sq_read (by decide) (rd_am3 m c), op_op]

end Cert.KernelIdeal.Hand
-- ==== Proof.IdealSched.lean ====
/-
# The schedule of the cells, the levels, and the steps that touch them

The cells of a device are numbered: 0 the barrier; 1–4 the send cells, 5–8 the receive cells of the blocks; 9–11 the send
cells, 12–14 the receive cells of the maxima. A device waits on a cell only while everything it still owes lies at a higher level:
barrier 1, blocks arriving 2, maxima arriving 3, all other cells 0.
-/
module

public import proofs.«01_k».proof.Proof.IdealPieces

@[expose] public section

noncomputable section

namespace Cert.KernelIdeal.Hand

open Cert.KernelIdeal Cert.KernelIdeal.Gen Cert.Steps

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

/-! ## The cells -/

/-- The semaphore of a cell, by its number. -/
def csem : Fin 15 → SemLoc sig := fun
  | 0 => .reg 0 | 1 => .dma 7 | 2 => .dma 8 | 3 => .dma 9 | 4 => .dma 10 | 5 => .dma 11 | 6 => .dma 12 | 7 => .dma 13 | 8 => .dma 14
  | 9 => .dma 15 | 10 => .dma 16 | 11 => .dma 17 | 12 => .dma 18 | 13 => .dma 19 | 14 => .dma 20
/-- The number of a semaphore's cell; 15 for the semaphores of local copies. -/
def kof : SemLoc sig → ℕ := fun
  | .reg _ => 0
  | .dma j => if 7 ≤ j.val then j.val - 6 else 15
theorem kof_csem (k : Fin 15) : kof (csem k) = k.val := by revert k; decide
abbrev kcell (p : Dev nD × Fin 15) : GSem nD τ sig := ((p.1 : Thread nD τ), csem p.2)

/-- The credit of a whole slot, of half a slot, of a slot of maxima. -/
def crS : ℕ := (rb0 : Memref sig .tc .vmem S1024x1024 .bf16).view.dmaCredit
def crH : ℕ := (rb2a : Memref sig .tc .vmem S512x1024 .bf16).view.dmaCredit
def crM : ℕ := (am0 : Memref sig .tc .vmem S8x128 .f32).view.dmaCredit
theorem crS_pos : 0 < crS := View.dmaCredit_pos _ (by decide)
theorem crH_pos : 0 < crH := View.dmaCredit_pos _ (by decide)
theorem crM_pos : 0 < crM := View.dmaCredit_pos _ (by decide)

/-- What one duty of a cell counts. -/
def amt : ℕ → ℕ := fun
  | 0 => 1 | 1 => crS | 2 => crS | 3 => crH | 4 => crH | 5 => crS | 6 => crS | 7 => crH | 8 => crH | _ => crM
theorem amt_pos (k : ℕ) : 0 < amt k := by
  unfold amt; split <;> first | exact Nat.one_pos | exact crS_pos | exact crH_pos | exact crM_pos

/-- The three shares in which a device's own maximum leaves. -/
abbrev qa : PosShare TreeShare := (fullShare : PosShare TreeShare).left
abbrev qb : PosShare TreeShare := (fullShare : PosShare TreeShare).right.left
abbrev qc : PosShare TreeShare := (fullShare : PosShare TreeShare).right.right

/-- What a duty of cell `k` of device `c` hands over. -/
def pay (c : Dev nD) : ℕ → Duty → sProp 𝕄 := fun
  | 0, 0 => iprop(anyAt (rt c) rb0 ∗ anyAt (rt c) am0)
  | 0, 1 => iprop(anyAt (lf c) rb1 ∗ anyAt (lf c) am1)
  | 0, 2 => iprop(anyAt (op c) rb2a ∗ anyAt (op c) rb2b ∗ anyAt (op c) am2)
  | 1, _ => pt c sb0 fullShare (up (sR m c))
  | 2, _ => pt c sb1 fullShare (up (sL m c))
  | 3, _ => pt c sb2a fullShare (up (sO m c))
  | 4, _ => pt c sb2b fullShare (up (sO m c))
  | 5, _ => pt c rb0 fullShare (up (sR m (lf c)))
  | 6, _ => pt c rb1 fullShare (up (sL m (rt c)))
  | 7, _ => pt c rb2a fullShare (up (sO m (op c)))
  | 8, _ => pt c rb2b fullShare (up (sO m (op c)))
  | 9, _ => pt c am3 qa (amAll m c)
  | 10, _ => pt c am3 qb (amAll m c)
  | 11, _ => pt c am3 qc (amAll m c)
  | 12, _ => pt c am0 fullShare (amAll m c)
  | 13, _ => pt c am1 fullShare (amAll m c)
  | 14, _ => pt c am2 fullShare (amAll m c)
  | _, _ => iprop(emp)

instance pay_storable (c : Dev nD) (k : ℕ) (j : Duty) : BI.Storable (upEmb : UEmb _ 𝕄) (pay m c k j) := by
  unfold pay
  split <;> infer_instance

/-- One round: the barrier has three duties, every other numbered cell one. -/
def Rd : Rounds.Schedule (GSem nD τ sig) Duty 𝕄 where
  duties g r := if r = 0 ∧ g.1.2 = .tc then (if kof g.2 = 0 then Finset.univ else if kof g.2 < 15 then {0} else ∅) else ∅
  unitless _ := False
  amount g _ _ := amt (kof g.2)
  payload g _ d := pay m g.1.1 (kof g.2) d
  amount_pos g _ _ _ := amt_pos _

instance Rd_payload_storable (g : GSem nD τ sig) (r : ℕ) (d : Duty) : BI.Storable (upEmb : UEmb _ 𝕄) ((Rd (F := F) m).payload g r d) :=
  pay_storable m g.1.1 (kof g.2) d

theorem duties_bar (c : Dev nD) : (Rd (F := F) m).duties (kcell (c, 0)) 0 = Finset.univ := by
  dsimp only [Rd]; rw [if_pos ⟨rfl, rfl⟩]; exact if_pos rfl
theorem duties_one (c : Dev nD) (k : Fin 15) (hk : k ≠ 0) : (Rd (F := F) m).duties (kcell (c, k)) 0 = {0} := by
  dsimp only [Rd]
  have h0 : ¬ k.val = 0 := fun h => hk (Fin.ext h)
  rw [if_pos ⟨rfl, rfl⟩, kof_csem, if_neg h0, if_pos k.isLt]
theorem duties_later (g : GSem nD τ sig) : ∀ r, 1 ≤ r → (Rd (F := F) m).duties g r = ∅ :=
  fun r hr => by dsimp only [Rd]; exact if_neg fun h => by omega
theorem amount_at (c : Dev nD) (k : Fin 15) (d : Duty) : (Rd (F := F) m).amount (kcell (c, k)) 0 d = amt k := by
  dsimp only [Rd]; rw [kof_csem]
theorem payload_at (c : Dev nD) (k : Fin 15) (d : Duty) : (Rd (F := F) m).payload (kcell (c, k)) 0 d = pay m c k d := by
  dsimp only [Rd]; rw [kof_csem]
theorem expect_bar (c : Dev nD) : (Rd (F := F) m).expect (kcell (c, 0)) 0 = 3 := by
  unfold Schedule.expect Schedule.amountOf
  rw [duties_bar, Finset.sum_congr rfl fun d _ => amount_at m c 0 d, Finset.sum_const, Finset.card_univ, Fintype.card_fin, smul_eq_mul]
  rfl
theorem expect_one (c : Dev nD) (k : Fin 15) (hk : k ≠ 0) : (Rd (F := F) m).expect (kcell (c, k)) 0 = amt k := by
  unfold Schedule.expect Schedule.amountOf; rw [duties_one m c k hk, Finset.sum_singleton, amount_at]
theorem rest_bar (c : Dev nD) :
    bigSep ((Rd (F := F) m).duties (kcell (c, 0)) 0 \ ∅) (fun d => (Rd (F := F) m).payload (kcell (c, 0)) 0 d) = iprop(pay m c 0 0 ∗ pay m c 0 1 ∗ pay m c 0 2) := by
  rw [Finset.sdiff_empty, duties_bar, bigSep_univ_eq_bigSepL [0, 1, 2] (by decide) (by decide), bigSepL_cons_cons, bigSepL_cons_cons, bigSepL_singleton,
    payload_at, payload_at, payload_at]
  rfl
theorem rest_one (c : Dev nD) (k : Fin 15) (hk : k ≠ 0) :
    bigSep ((Rd (F := F) m).duties (kcell (c, k)) 0 \ ∅) (fun d => (Rd (F := F) m).payload (kcell (c, k)) 0 d) = pay m c k 0 := by
  rw [Finset.sdiff_empty, duties_one m c k hk, bigSep_singleton, payload_at]

/-! ## What a device owes, and the levels -/

/-- The sum of the dues in a list of cells. -/
def owing : List (Dev nD × Fin 15) → CellTallies nD τ sig Unit
  | [] => 0
  | p :: l => owing l + tallyAt (kcell p) () (amt p.2)
/-- What a device owes at launch, in the order it pays. -/
def dues (c : Dev nD) : List (Dev nD × Fin 15) :=
  [(lf c, 0), (rt c, 0), (op c, 0), (rt c, 5), (lf c, 6), (op c, 7), (op c, 8), (rt c, 12), (lf c, 13), (op c, 14)]
def dueKs : List (Fin 15) := [0, 0, 0, 5, 6, 7, 8, 12, 13, 14]
/-- What it owes after `n` payments. -/
def O (c : Dev nD) (n : ℕ) : CellTallies nD τ sig Unit := owing ((dues c).drop n)
theorem O_done (c : Dev nD) : O c 10 = 0 := rfl

def L (g : GSem nD τ sig) : Finset Unit := if g.1.2 = .tc then {()} else ∅
def lvk : ℕ → ℕ := fun | 0 => 1 | 5 => 2 | 6 => 2 | 7 => 2 | 8 => 2 | 12 => 3 | 13 => 3 | 14 => 3 | _ => 0
def lv (g : GSem nD τ sig) (_ : Unit) : ℕ := lvk (kof g.2)
theorem L_of_ne (g : GSem nD τ sig) (h : g.1.2 ≠ .tc) : L g = ∅ := if_neg h
theorem L_tc (c : Dev nD) (sm : SemLoc sig) : L ((c : Thread nD τ), sm) = {()} := if_pos rfl

theorem owing_pos {l : List (Dev nD × Fin 15)} {g : GSem nD τ sig} {u : Unit} (h : 0 < owing l g u) : ∃ p ∈ l, g = kcell p := by
  induction l with
  | nil => exact absurd h (Nat.lt_irrefl 0)
  | cons p l ih =>
    unfold owing at h
    rw [Pi.add_apply, Finsupp.add_apply, tallyAt_apply] at h
    by_cases hp : g = kcell p ∧ u = ()
    · exact ⟨p, List.mem_cons_self, hp.1⟩
    · rw [if_neg hp, Nat.add_zero] at h
      obtain ⟨p', hp', e⟩ := ih h
      exact ⟨p', List.mem_cons_of_mem _ hp', e⟩

/-- A device may wait where everything it owes lies higher. -/
theorem mayWait (c : Dev nD) (sm : SemLoc sig) (n : ℕ) (h : ∀ j ∈ dueKs.drop n, lvk (kof sm) < lvk (j : Fin 15).val) :
    (levAts L lv : sProp 𝕄) ⊢ MayWait (c : Thread nD τ) sm () (O c n) := by
  have key : ∀ g u, 0 < O c n g u → ∃ p : Dev nD × Fin 15, g = kcell p ∧ p.2 ∈ dueKs.drop n := fun g u hg => by
    obtain ⟨p, hp, e⟩ := owing_pos hg
    refine ⟨p, e, ?_⟩
    have := List.mem_map_of_mem (f := Prod.snd) hp
    rwa [List.map_drop] at this
  refine MayOwe.of_cut (L := L) (lev := lv) (lvk (kof sm)) (fun p hp => by rw [Finset.mem_singleton.mp hp, L_tc]; exact Finset.mem_singleton_self _)
    (fun g u hg => by obtain ⟨p, rfl, -⟩ := key g u hg; exact Finset.mem_singleton_self _)
    (fun p hp => by rw [Finset.mem_singleton.mp hp]; exact le_refl _)
    (fun g u hg => by
      obtain ⟨p, rfl, hp⟩ := key g u hg
      unfold lv; rw [kof_csem]; exact h _ hp)

/-- What device `c` owes after `n` payments, whatever it has waited for. -/
def Owe (c : Dev nD) (n : ℕ) : sProp 𝕄 := iprop(∃ W, owes (c : Thread nD τ) (O c n) W)

/-! ## The records every step may read -/

variable (K : Dev nD × Fin 15 → ℕ)

def recs : sProp 𝕄 :=
  iprop((bigSep Finset.univ fun ck : Dev nD × Fin 15 => cellInv ER (Rd m) (K ck) (kcell ck))
    ∗ (bigSep Finset.univ fun ck : Dev nD × Fin 15 => reached ER (kcell ck) 0) ∗ levAts L lv)
instance recs_persistent : BI.Persistent (recs (F := F) m K) := by unfold recs; infer_instance
theorem recs_inv (ck : Dev nD × Fin 15) : recs m K ⊢ (cellInv ER (Rd m) (K ck) (kcell ck) : sProp 𝕄) := by
  unfold recs; exact sep_elim_left.trans (bigSep_elim (Finset.mem_univ ck))
theorem recs_reached (ck : Dev nD × Fin 15) : recs m K ⊢ (reached ER (kcell ck) 0 : sProp 𝕄) := by
  unfold recs; exact sep_elim_right.trans (sep_elim_left.trans (bigSep_elim (Finset.mem_univ ck)))
theorem recs_lev : recs m K ⊢ (levAts L lv : sProp 𝕄) := by
  unfold recs; iintro ⟨-, -, H⟩; iexact H

/-- The right to pay duty `j` of a cell; a device's position at a cell; credit for a cell. -/
abbrev tok (d : Dev nD) (k : Fin 15) (j : Duty) : sProp 𝕄 := dutyTok ER (kcell (d, k)) 0 j
abbrev pos (c : Dev nD) (k : Fin 15) : sProp 𝕄 := atPos ER (kcell (c, k)) 0 ∅ 0
abbrev crd (c : Dev nD) (k : Fin 15) (n : ℕ) : sProp 𝕄 := cred (tallyAt (kcell (c, k)) () n)
abbrev zero (c : Dev nD) (k : Fin 15) : sProp 𝕄 := semVal (kcell (c, k)) 0

section Steps

variable {defs : Defs nD τ sig (Elt F) Λ₀} {α : Type}

/-- A signal to the barrier of device `d`. -/
theorem sig_step (c d d' : Dev nD) (n : ℕ) (j : Duty) (hd : d' = d) (hdrop : (dues c).drop n = (d, 0) :: (dues c).drop (n + 1))
    {sem : Sem sig} (hs : csem 0 = .reg sem) {a : ℕ} (ha : a = 1) {Q : α → sProp 𝕄} {k : PUnit → Prog (TpuEff nD τ sig (Elt F) Λ₀ .tc) α} :
    iprop(recs m K ∗ Owe c n ∗ tok d 0 j ∗ pay m d 0 j)
      ⊢ iprop((Owe c (n + 1) -∗ wp frame (wpE defs Variants.none (c : Thread nD τ) none) Set.univ (k ⟨⟩) Q)
        -∗ wp frame (wpE defs Variants.none (c : Thread nD τ) none) Set.univ (.op (.semSignal (d' : Thread nD τ) sem a) k) Q) := by
  subst hd ha
  have hg : (((d' : Thread nD τ), SemLoc.reg sem) : GSem nD τ sig) = kcell (d', 0) := by rw [← hs]
  have hO : O c n = O c (n + 1) + tallyAt (kcell (d', 0)) () 1 := by unfold O; rw [hdrop]; rfl
  iintro ⟨#HR, Ho, Ht, Hp⟩ Hk
  unfold Owe
  icases Ho with ⟨%W, Ho⟩
  iapply (Rounds.wp_signal Variants.none ER (Rd (F := F) m) (c : Thread nD τ) none (dst := (d' : Thread nD τ)) (sem := sem) (κ := K (d', 0)) (r := 0) (d := j)
      (by rw [hg, duties_bar]; exact Finset.mem_univ _) (by rw [hg, amount_at]; rfl) () (O₀ := O c n) (O c (n + 1)) (by rw [hg]; exact hO) (W := W)) $$ [Ho Ht Hp]
  · rw [hg, payload_at]
    isplitr; · iapply (recs_inv m K (d', 0)); iexact HR
    isplitl [Ho]; · iexact Ho
    isplitl [Ht]; · iexact Ht
    isplitl [Hp]; · iexact Hp
    iapply (recs_reached m K (d', 0)); iexact HR
  iintro Ho
  iapply Hk
  iexists W; iexact Ho

/-- The wait for the three signals. -/
theorem bar_step (c : Dev nD) (n : ℕ) {sem : Sem sig} (hs : csem 0 = .reg sem) {a : ℕ} (ha : a = 3)
    (hlev : ∀ j ∈ dueKs.drop n, lvk 0 < lvk (j : Fin 15).val) {Q : α → sProp 𝕄} {k : PUnit → Prog (TpuEff nD τ sig (Elt F) Λ₀ .tc) α} :
    iprop(recs m K ∗ crd c 0 3 ∗ Owe c n ∗ pos c 0)
      ⊢ iprop(((pay m c 0 0 ∗ pay m c 0 1 ∗ pay m c 0 2) ∗ zero c 0 ∗ Owe c n -∗ wp frame (wpE defs Variants.none (c : Thread nD τ) none) Set.univ (k ⟨⟩) Q)
        -∗ wp frame (wpE defs Variants.none (c : Thread nD τ) none) Set.univ (.op (.semWait sem a) k) Q) := by
  subst ha
  have hg : (((c : Thread nD τ), SemLoc.reg sem) : GSem nD τ sig) = kcell (c, 0) := by rw [← hs]
  iintro ⟨#HR, Hc, Ho, Ha⟩ Hk
  unfold Owe
  icases Ho with ⟨%W, Ho⟩
  iapply (Rounds.wp_wait_rest_token Variants.none ER (Rd (F := F) m) (c : Thread nD τ) none (κ := K (c, 0))
      (wpE_semWait_eq Variants.none (c : Thread nD τ) none Set.univ (sem := sem)) (Set.mem_univ _) () (O := O c n) (W := W) (R := 0) (m := 0) (T := ∅)
      (by rw [hg, expect_bar])) $$ [Hc Ho Ha]
  · rw [hg]
    isplitr; · iapply (recs_inv m K (c, 0)); iexact HR
    isplitl [Hc]; · iexact Hc
    isplitl [Ho]; · iexact Ho
    isplitr; · iapply (mayWait (F := F) c (.reg sem) n (by rw [← hs]; exact hlev)); iapply (recs_lev m K); iexact HR
    iexact Ha
  rw [hg]
  iintro ⟨Ho, Ha, -, Hp⟩
  ihave Hp := (Entails.of_eq (rest_bar m c)) $$ Hp
  imod (Rounds.cell_close ER (Rd (F := F) m) (Set.mem_univ (K (c, 0))) (fun h => h) (R := 0 + 1) (duties_later m (kcell (c, 0)))) $$ [Ha] with Hz
  · isplitr; · iapply (recs_inv m K (c, 0)); iexact HR
    iexact Ha
  iapply Hk
  isplitl [Hp]; · iexact Hp
  isplitl [Hz]; · iexact Hz
  iexists _; iexact Ho

/-- The wait for the one payment to a cell. -/
theorem wait_step (c : Dev nD) (n : ℕ) (kk : Fin 15) (hk : kk ≠ 0) {sem : DmaSem sig} (hs : csem kk = .dma sem)
    {κ₂ : Kind} {sp sp' : Space} {s₁ s₂ : Shape} {e₁ e₂ : EltTy} {srcw : Memref sig .tc sp s₁ e₁} {dstw : Memref sig κ₂ sp' s₂ e₂}
    {hsrc : srcw.view.WordExact} {hdst : dstw.view.WordExact}
    (hN : dstw.view.dmaCredit = amt kk)
    (hlev : ∀ j ∈ dueKs.drop n, lvk kk.val < lvk (j : Fin 15).val) {Q : α → sProp 𝕄} {k : PUnit → Prog (TpuEff nD τ sig (Elt F) Λ₀ .tc) α} :
    iprop(recs m K ∗ crd c kk (amt kk) ∗ Owe c n ∗ pos c kk)
      ⊢ iprop((pay m c kk 0 ∗ zero c kk ∗ Owe c n -∗ wp frame (wpE defs Variants.none (c : Thread nD τ) none) Set.univ (k ⟨⟩) Q)
        -∗ wp frame (wpE defs Variants.none (c : Thread nD τ) none) Set.univ (.op (.waitDma2 sem srcw dstw hsrc hdst) k) Q) := by
  have hg : (((c : Thread nD τ), SemLoc.dma sem) : GSem nD τ sig) = kcell (c, kk) := by rw [← hs]
  iintro ⟨#HR, Hc, Ho, Ha⟩ Hk
  unfold Owe
  icases Ho with ⟨%W, Ho⟩
  iapply (Rounds.wp_wait_rest_token Variants.none ER (Rd (F := F) m) (c : Thread nD τ) none (κ := K (c, kk))
      (wpE_waitDma2_eq Variants.none (c : Thread nD τ) none Set.univ (sem := sem) (src := srcw) (dst := dstw)) (Set.mem_univ _) () (O := O c n) (W := W) (R := 0) (m := 0) (T := ∅)
      (by rw [hg, expect_one m c kk hk, Nat.zero_add, hN])) $$ [Hc Ho Ha]
  · rw [hg, hN]
    isplitr; · iapply (recs_inv m K (c, kk)); iexact HR
    isplitl [Hc]; · iexact Hc
    isplitl [Ho]; · iexact Ho
    isplitr; · iapply (mayWait (F := F) c (.dma sem) n (by rw [← hs, kof_csem]; exact hlev)); iapply (recs_lev m K); iexact HR
    iexact Ha
  rw [hg]
  iintro ⟨Ho, Ha, -, Hp⟩
  ihave Hp := (Entails.of_eq (rest_one m c kk hk)) $$ Hp
  imod (Rounds.cell_close ER (Rd (F := F) m) (Set.mem_univ (K (c, kk))) (fun h => h) (R := 0 + 1) (duties_later m (kcell (c, kk)))) $$ [Ha] with Hz
  · isplitr; · iapply (recs_inv m K (c, kk)); iexact HR
    iexact Ha
  iapply Hk
  isplitl [Hp]; · iexact Hp
  isplitl [Hz]; · iexact Hz
  iexists _; iexact Ho

/-- A transfer to device `d`: it pays a duty of the sender's send cell and one of the receiver's receive cell. -/
theorem send_step (c d d' : Dev nD) (n : ℕ) (hd : d' = d) (ks kr : Fin 15) (hks : ks ≠ 0) (hkr : kr ≠ 0) (hdrop : (dues c).drop n = (d, kr) :: (dues c).drop (n + 1))
    {semS semR : DmaSem sig} (hsS : csem ks = .dma semS) (hsR : csem kr = .dma semR)
    {sp sp' : Space} {s : Shape} {e : EltTy} {src : Memref sig .tc sp s e} {dst : Memref sig (Dev.tc d' : Thread nD τ).2.kind sp' s e}
    {hsc : dst.view.ref.isScScratch = false} {hsrc : src.view.WordExact} {hdst : dst.view.WordExact}
    {hsem : DmaTarget.Typed sp (.dma semR) (.remote (Dev.tc d' : Thread nD τ) dst (.dma semS) hsc)}
    (hN : dst.view.dmaCredit = amt kr) (hN' : amt ks = amt kr) {q : PosShare TreeShare}
    {fs : Buf (Elt F) (src.view.loc (c : Thread nD τ))} (g : Buf (Elt F) (dst.view.loc (d' : Thread nD τ)))
    (hg : dst.view.read (Elt F) g = src.view.read (Elt F) fs)
    (hp₁ : pt c src q fs ⊢ pay m c ks 0) (hp₂ : pt d' dst fullShare g ⊢ pay m d kr 0)
    {Q : α → sProp 𝕄} {k : PUnit → Prog (TpuEff nD τ sig (Elt F) Λ₀ .tc) α} :
    iprop(recs m K ∗ pt c src q fs ∗ anyAt d' dst ∗ Owe c n ∗ tok c ks 0 ∗ tok d kr 0)
      ⊢ iprop((crd c ks (amt ks) ∗ Owe c (n + 1) -∗ wp frame (wpE defs Variants.none (c : Thread nD τ) none) Set.univ (k ⟨⟩) Q)
        -∗ wp frame (wpE defs Variants.none (c : Thread nD τ) none) Set.univ
              (.op (.enqueueDma src (.remote (Dev.tc d' : Thread nD τ) dst (.dma semS) hsc) (.dma semR) hsrc hdst hsem) k) Q) := by
  subst hd
  have hgS : (((c : Thread nD τ), SemLoc.dma semS) : GSem nD τ sig) = kcell (c, ks) := by rw [← hsS]
  have hgR : (((d' : Thread nD τ), SemLoc.dma semR) : GSem nD τ sig) = kcell (d', kr) := by rw [← hsR]
  have hO : O c n = O c (n + 1) + tallyAt (kcell (d', kr)) () (amt kr) := by unfold O; rw [hdrop]; rfl
  iintro ⟨#HR, Hs, Hd, Ho, HtS, HtR⟩ Hk
  unfold Owe
  icases Ho with ⟨%W, Ho⟩
  icases Hd with ⟨%fd, Hd⟩
  have ew := pt_write (F := F) (U := UU) d' dst fullShare (f := fd) hg
  iapply (Rounds.wp_send_pointsTo Variants.none ER (Rd (F := F) m) (c : Thread nD τ) none (κ₁ := K (c, ks)) (κ₂ := K (d', kr)) (c' := (d' : Thread nD τ))
    (r₁ := 0) (r₂ := 0) (d₁ := 0) (d₂ := 0) (fs := fs) (fd := fd) (q := q) (sS := .dma semS) (sem := .dma semR) (dst := dst) (src := src)
    (by rw [hgS, duties_one m c ks hks]; exact Finset.mem_singleton_self _) (by rw [hgR, duties_one m d' kr hkr]; exact Finset.mem_singleton_self _)
    () () (amt kr) hN (by rw [hgS, amount_at, hN']) (by rw [hgR, amount_at]) (O₀ := O c n) (O c (n + 1)) (by rw [hgR]; exact hO) (W := W)
    (by rw [hgS, payload_at]; exact hp₁)
    (by rw [hgR, payload_at]; exact (Entails.of_eq ew).trans hp₂)) $$ [Hs Hd Ho HtS HtR]
  · rw [hgS, hgR]
    isplitr; · iapply (recs_inv m K (c, ks)); iexact HR
    isplitr; · iapply (recs_inv m K (d', kr)); iexact HR
    isplitl [Hs]; · unfold pt; iexact Hs
    isplitl [Hd]; · unfold pt; iexact Hd
    isplitl [Ho]; · iexact Ho
    isplitl [HtS]; · iexact HtS
    isplitr; · iapply (recs_reached m K (c, ks)); iexact HR
    isplitl [HtR]; · iexact HtR
    iapply (recs_reached m K (d', kr)); iexact HR
  rw [hgS, ← hN']
  iintro ⟨Hc, Ho⟩
  iapply Hk
  isplitl [Hc]; · iexact Hc
  iexists W; iexact Ho

/-- The wait for a local copy. -/
theorem copy_wait (c : Dev nD) (n : ℕ) {sem : DmaSem sig} {κ' : Kind} {sp sp' : Space} {s s₁ : Shape} {e e₁ : EltTy}
    {srcw : Memref sig .tc sp' s₁ e₁} {dstw : Memref sig κ' sp s e} {hsrc : srcw.view.WordExact} {hdst : dstw.view.WordExact}
    {Q : α → sProp 𝕄} {k : PUnit → Prog (TpuEff nD τ sig (Elt F) Λ₀ .tc) α} {N : ℕ} (hN : dstw.view.dmaCredit = N) {D : sProp 𝕄}
    (hlev : ∀ j ∈ dueKs.drop n, lvk (kof (.dma sem)) < lvk (j : Fin 15).val) :
    iprop(recs m K ∗ Transfers.Flight EC (c : Thread nD τ) (.dma sem) () N D ∗ Owe c n)
      ⊢ iprop((D ∗ semVal ((c : Thread nD τ), .dma sem) 0 ∗ Owe c n -∗ wp frame (wpE defs Variants.none (c : Thread nD τ) none) Set.univ (k ⟨⟩) Q)
        -∗ wp frame (wpE defs Variants.none (c : Thread nD τ) none) Set.univ (.op (.waitDma2 sem srcw dstw hsrc hdst) k) Q) := by
  iintro ⟨#HR, Hf, Ho⟩ Hk
  unfold Owe
  iapply (cp_wait c EC (sem := sem) (srcw := srcw) (dstw := dstw) (hsrc := hsrc) (hdst := hdst) (k := k) hN (D := D) (O := O c n)) $$ [Hf Ho]
  · isplitl [Hf]; · iexact Hf
    isplitl [Ho]; · iexact Ho
    iapply (mayWait (F := F) c (.dma sem) n hlev); iapply (recs_lev m K); iexact HR
  iexact Hk

end Steps

end Cert.KernelIdeal.Hand
-- ==== Proof.IdealGeom.lean ====
/-
# Cutting buffers into pieces and putting them together again
-/
module

public import proofs.«01_k».proof.Proof.IdealSched

@[expose] public section

noncomputable section

namespace Cert.KernelIdeal.Hand

open Cert.KernelIdeal Cert.KernelIdeal.Gen Cert.Steps

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × Fin 15 → ℕ)

/-- The shares of `x` and of `w` in which the four blocks of rows are lent to the copies. -/
abbrev qll : PosShare TreeShare := (fullShare : PosShare TreeShare).left.left
abbrev qlr : PosShare TreeShare := (fullShare : PosShare TreeShare).left.right
abbrev qrl : PosShare TreeShare := (fullShare : PosShare TreeShare).right.left
abbrev qrr : PosShare TreeShare := (fullShare : PosShare TreeShare).right.right

/-! ## Sets of elements -/

section Raw
variable {ℓ : Loc nD τ sig} {S I J : Finset (Idx ℓ)} {q : PosShare TreeShare} {f : Buf (Elt F) ℓ}

/-- Two disjoint parts of a set of elements, and the rest. -/
theorem raw_two (hI : I ⊆ S) (hJ : J ⊆ S) (h : Disjoint I J) :
    (ℓ ↦[S]{q} f : sProp 𝕄) ⊣⊢ iprop((ℓ ↦[I]{q} f) ∗ (ℓ ↦[J]{q} f) ∗ ℓ ↦[(S \ I) \ J]{q} f) := by
  have h2 : J ⊆ S \ I := Finset.subset_sdiff.mpr ⟨hJ, h.symm⟩
  exact ⟨(pointsTo_split_subset hI).1.trans (sep_mono_right (pointsTo_split_subset h2).1),
    (sep_mono_right (pointsTo_split_subset h2).2).trans (pointsTo_split_subset hI).2⟩
/-- The same, whatever the parts hold. -/
theorem raw_two_any (hI : I ⊆ S) (hJ : J ⊆ S) (h : Disjoint I J) :
    iprop((∃ f, (ℓ ↦[I]{fullShare} f : sProp 𝕄)) ∗ (∃ f, (ℓ ↦[J]{fullShare} f : sProp 𝕄)) ∗ ∃ f, (ℓ ↦[(S \ I) \ J]{fullShare} f : sProp 𝕄))
      ⊢ iprop(∃ f, (ℓ ↦[S]{fullShare} f : sProp 𝕄)) := by
  have h2 : J ⊆ S \ I := Finset.subset_sdiff.mpr ⟨hJ, h.symm⟩
  iintro ⟨⟨%f, Hf⟩, ⟨%g, Hg⟩, ⟨%k, Hk⟩⟩
  iexists _
  iapply (pointsTo_join_subset (g := f) hI)
  isplitl [Hf]; · iexact Hf
  iapply (pointsTo_join_subset (g := g) h2)
  isplitl [Hg]; · iexact Hg
  iexact Hk

variable {I₀ I₁ I₂ I₃ : Finset (Idx ℓ)}
/-- Four disjoint parts of a buffer, and the rest. -/
theorem raw_four (h01 : Disjoint I₀ I₁) (h02 : Disjoint I₀ I₂) (h03 : Disjoint I₀ I₃) (h12 : Disjoint I₁ I₂) (h13 : Disjoint I₁ I₃) (h23 : Disjoint I₂ I₃) :
    (ℓ ↦[Finset.univ]{q} f : sProp 𝕄) ⊣⊢ iprop((ℓ ↦[I₀]{q} f) ∗ (ℓ ↦[I₁]{q} f) ∗ (ℓ ↦[I₂]{q} f) ∗ (ℓ ↦[I₃]{q} f) ∗ ℓ ↦[(((Finset.univ \ I₀) \ I₁) \ I₂) \ I₃]{q} f) := by
  have a := raw_two (F := F) (ℓ := ℓ) (q := q) (f := f) (Finset.subset_univ I₀) (Finset.subset_univ I₁) h01
  have b := raw_two (F := F) (ℓ := ℓ) (q := q) (f := f) (S := (Finset.univ \ I₀) \ I₁) (I := I₂) (J := I₃)
    (Finset.subset_sdiff.mpr ⟨Finset.subset_sdiff.mpr ⟨Finset.subset_univ _, h02.symm⟩, h12.symm⟩)
    (Finset.subset_sdiff.mpr ⟨Finset.subset_sdiff.mpr ⟨Finset.subset_univ _, h03.symm⟩, h13.symm⟩) h23
  exact ⟨a.1.trans (sep_mono_right (sep_mono_right b.1)), (sep_mono_right (sep_mono_right b.2)).trans a.2⟩
theorem raw_four_any (h01 : Disjoint I₀ I₁) (h02 : Disjoint I₀ I₂) (h03 : Disjoint I₀ I₃) (h12 : Disjoint I₁ I₂) (h13 : Disjoint I₁ I₃) (h23 : Disjoint I₂ I₃) :
    iprop((∃ f, (ℓ ↦[I₀]{fullShare} f : sProp 𝕄)) ∗ (∃ f, (ℓ ↦[I₁]{fullShare} f : sProp 𝕄)) ∗ (∃ f, (ℓ ↦[I₂]{fullShare} f : sProp 𝕄)) ∗ (∃ f, (ℓ ↦[I₃]{fullShare} f : sProp 𝕄))
        ∗ ∃ f, (ℓ ↦[(((Finset.univ \ I₀) \ I₁) \ I₂) \ I₃]{fullShare} f : sProp 𝕄))
      ⊢ iprop(∃ f, (ℓ ↦[Finset.univ]{fullShare} f : sProp 𝕄)) := by
  have a := raw_two_any (F := F) (ℓ := ℓ) (Finset.subset_univ I₀) (Finset.subset_univ I₁) h01
  have b := raw_two_any (F := F) (ℓ := ℓ) (S := (Finset.univ \ I₀) \ I₁) (I := I₂) (J := I₃)
    (Finset.subset_sdiff.mpr ⟨Finset.subset_sdiff.mpr ⟨Finset.subset_univ _, h02.symm⟩, h12.symm⟩)
    (Finset.subset_sdiff.mpr ⟨Finset.subset_sdiff.mpr ⟨Finset.subset_univ _, h03.symm⟩, h13.symm⟩) h23
  exact (sep_mono_right (sep_mono_right b)).trans a
/-- The same where no element is left over. -/
theorem raw_four_all (h01 : Disjoint I₀ I₁) (h02 : Disjoint I₀ I₂) (h03 : Disjoint I₀ I₃) (h12 : Disjoint I₁ I₂) (h13 : Disjoint I₁ I₃) (h23 : Disjoint I₂ I₃)
    (hall : ∀ i, i ∈ I₀ ∨ i ∈ I₁ ∨ i ∈ I₂ ∨ i ∈ I₃) :
    (ℓ ↦[Finset.univ]{q} f : sProp 𝕄) ⊣⊢ iprop((ℓ ↦[I₀]{q} f) ∗ (ℓ ↦[I₁]{q} f) ∗ (ℓ ↦[I₂]{q} f) ∗ (ℓ ↦[I₃]{q} f)) := by
  have a := raw_four (F := F) (ℓ := ℓ) (q := q) (f := f) h01 h02 h03 h12 h13 h23
  have e : (((Finset.univ \ I₀) \ I₁) \ I₂) \ I₃ = ∅ := by
    refine Finset.eq_empty_of_forall_notMem fun i hi => ?_
    simp only [Finset.mem_sdiff, Finset.mem_univ, true_and] at hi
    rcases hall i with h | h | h | h
    · exact hi.1.1.1 h
    · exact hi.1.1.2 h
    · exact hi.1.2 h
    · exact hi.2 h
  rw [e, pointsTo_empty] at a
  exact ⟨a.1.trans (sep_mono_right (sep_mono_right (sep_mono_right BI.sep_emp.1))), (sep_mono_right (sep_mono_right (sep_mono_right BI.sep_emp.2))).trans a.2⟩

/-- Four shares of a buffer, each lending one part; and the way back. -/
theorem raw_lend (I₀ I₁ I₂ I₃ : Finset (Idx ℓ)) :
    (ℓ ↦[Finset.univ]{fullShare} f : sProp 𝕄)
      ⊢ iprop(((ℓ ↦[I₀]{(fullShare : PosShare TreeShare).left.left} f) ∗ (ℓ ↦[I₁]{(fullShare : PosShare TreeShare).left.right} f)
            ∗ (ℓ ↦[I₂]{(fullShare : PosShare TreeShare).right.left} f) ∗ (ℓ ↦[I₃]{(fullShare : PosShare TreeShare).right.right} f))
          ∗ (((ℓ ↦[I₀]{(fullShare : PosShare TreeShare).left.left} f) ∗ (ℓ ↦[I₁]{(fullShare : PosShare TreeShare).left.right} f)
            ∗ (ℓ ↦[I₂]{(fullShare : PosShare TreeShare).right.left} f) ∗ (ℓ ↦[I₃]{(fullShare : PosShare TreeShare).right.right} f))
            -∗ (ℓ ↦[Finset.univ]{fullShare} f))) := by
  iintro H
  ihave H := (pointsTo_share (PosShare.mem_left_op_right fullShare)).1 $$ H
  icases H with ⟨Hl, Hr⟩
  ihave Hl := (pointsTo_share (PosShare.mem_left_op_right (fullShare : PosShare TreeShare).left)).1 $$ Hl
  ihave Hr := (pointsTo_share (PosShare.mem_left_op_right (fullShare : PosShare TreeShare).right)).1 $$ Hr
  icases Hl with ⟨H0, H1⟩
  icases Hr with ⟨H2, H3⟩
  ihave H0 := (pointsTo_split_subset (Finset.subset_univ I₀)).1 $$ H0
  ihave H1 := (pointsTo_split_subset (Finset.subset_univ I₁)).1 $$ H1
  ihave H2 := (pointsTo_split_subset (Finset.subset_univ I₂)).1 $$ H2
  ihave H3 := (pointsTo_split_subset (Finset.subset_univ I₃)).1 $$ H3
  icases H0 with ⟨H0, G0⟩
  icases H1 with ⟨H1, G1⟩
  icases H2 with ⟨H2, G2⟩
  icases H3 with ⟨H3, G3⟩
  isplitl [H0 H1 H2 H3]
  · isplitl [H0]; · iexact H0
    isplitl [H1]; · iexact H1
    isplitl [H2] <;> iassumption
  iintro ⟨H0, H1, H2, H3⟩
  iapply (pointsTo_share (PosShare.mem_left_op_right fullShare)).2
  isplitl [H0 H1 G0 G1]
  · iapply (pointsTo_share (PosShare.mem_left_op_right (fullShare : PosShare TreeShare).left)).2
    isplitl [H0 G0]
    · iapply (pointsTo_split_subset (Finset.subset_univ I₀)).2
      isplitl [H0] <;> iassumption
    · iapply (pointsTo_split_subset (Finset.subset_univ I₁)).2
      isplitl [H1] <;> iassumption
  · iapply (pointsTo_share (PosShare.mem_left_op_right (fullShare : PosShare TreeShare).right)).2
    isplitl [H2 G2]
    · iapply (pointsTo_split_subset (Finset.subset_univ I₂)).2
      isplitl [H2] <;> iassumption
    · iapply (pointsTo_split_subset (Finset.subset_univ I₃)).2
      isplitl [H3] <;> iassumption
end Raw

/-! ## The sets of the pieces -/

theorem x_set (off) (inb) : ((xsM).slice (Rect.unit (s := S2x1024x1024) off S1x1024x1024.size inb) (fun _ => rfl)).view.set = (Rect.unit (s := S2x1024x1024) off S1x1024x1024.size inb).set :=
  View.set_slice_whole cc0_scratch0 _
theorem sb_set (off sz) (inb) (hr) : ((sbM).slice (Rect.unit (s := S4x1024x1024) off sz inb) hr).view.set = (Rect.unit (s := S4x1024x1024) off sz inb).set :=
  View.set_slice_whole cc0_scratch1 _
theorem rb_set (off sz) (inb) (hr) : ((rbM).slice (Rect.unit (s := S3x1024x1024) off sz inb) hr).view.set = (Rect.unit (s := S3x1024x1024) off sz inb).set :=
  View.set_slice_whole cc0_scratch2 _
theorem y_set (off sz) (inb) (hr) : ((yM).slice (Rect.unit (s := S1024x2048) off sz inb) hr).view.set = (Rect.unit (s := S1024x2048) off sz inb).set :=
  View.set_slice_whole cc0_scratch5 _
theorem am_set (off sz) (inb) (hr) : ((amM).slice (Rect.unit (s := S4x8x128) off sz inb) hr).view.set = (Rect.unit (s := S4x8x128) off sz inb).set :=
  View.set_slice_whole cc0_scratch6 _
theorem o_set (off sz) (inb) (hr) : ((oM).slice (Rect.unit (s := S1024x2048) off sz inb) hr).view.set = (Rect.unit (s := S1024x2048) off sz inb).set :=
  View.set_slice_whole main_v1 _

theorem xs0_set : (xs0).view.set = (Rect.unit (s := S2x1024x1024) ![0, 0, 0] S1x1024x1024.size inb_S2x1024x1024_S1x1024x1024_0_0_0).set := (View.set_reshape _ _).trans (x_set _ _)
theorem xs1_set : (xs1).view.set = (Rect.unit (s := S2x1024x1024) ![1, 0, 0] S1x1024x1024.size inb_S2x1024x1024_S1x1024x1024_1_0_0).set := (View.set_reshape _ _).trans (x_set _ _)
theorem sb0_set : (sb0).view.set = (Rect.unit (s := S4x1024x1024) ![0, 0, 0] S1x1024x1024.size inb_S4x1024x1024_S1x1024x1024_0_0_0).set := (View.set_reshape _ _).trans (sb_set _ _ _ _)
theorem sb1_set : (sb1).view.set = (Rect.unit (s := S4x1024x1024) ![1, 0, 0] S1x1024x1024.size inb_S4x1024x1024_S1x1024x1024_1_0_0).set := (View.set_reshape _ _).trans (sb_set _ _ _ _)
theorem sb2a_set : (sb2a).view.set = (Rect.unit (s := S4x1024x1024) ![2, 0, 0] S1x512x1024.size inb_S4x1024x1024_S1x512x1024_2_0_0).set := (View.set_reshape _ _).trans (sb_set _ _ _ _)
theorem sb2b_set : (sb2b).view.set = (Rect.unit (s := S4x1024x1024) ![2, 512, 0] S1x512x1024.size inb_S4x1024x1024_S1x512x1024_2_512_0).set := (View.set_reshape _ _).trans (sb_set _ _ _ _)
theorem rb0_set : (rb0).view.set = (Rect.unit (s := S3x1024x1024) ![0, 0, 0] S1x1024x1024.size inb_S3x1024x1024_S1x1024x1024_0_0_0).set := (View.set_reshape _ _).trans (rb_set _ _ _ _)
theorem rb1_set : (rb1).view.set = (Rect.unit (s := S3x1024x1024) ![1, 0, 0] S1x1024x1024.size inb_S3x1024x1024_S1x1024x1024_1_0_0).set := (View.set_reshape _ _).trans (rb_set _ _ _ _)
theorem rb2a_set : (rb2a).view.set = (Rect.unit (s := S3x1024x1024) ![2, 0, 0] S1x512x1024.size inb_S3x1024x1024_S1x512x1024_2_0_0).set := (View.set_reshape _ _).trans (rb_set _ _ _ _)
theorem rb2b_set : (rb2b).view.set = (Rect.unit (s := S3x1024x1024) ![2, 512, 0] S1x512x1024.size inb_S3x1024x1024_S1x512x1024_2_512_0).set := (View.set_reshape _ _).trans (rb_set _ _ _ _)
theorem am0_set : (am0).view.set = (Rect.unit (s := S4x8x128) ![0, 0, 0] S1x8x128.size inb_S4x8x128_S1x8x128_0_0_0).set := (View.set_reshape _ _).trans (am_set _ _ _ _)
theorem am1_set : (am1).view.set = (Rect.unit (s := S4x8x128) ![1, 0, 0] S1x8x128.size inb_S4x8x128_S1x8x128_1_0_0).set := (View.set_reshape _ _).trans (am_set _ _ _ _)
theorem am2_set : (am2).view.set = (Rect.unit (s := S4x8x128) ![2, 0, 0] S1x8x128.size inb_S4x8x128_S1x8x128_2_0_0).set := (View.set_reshape _ _).trans (am_set _ _ _ _)
theorem am3_set : (am3).view.set = (Rect.unit (s := S4x8x128) ![3, 0, 0] S1x8x128.size inb_S4x8x128_S1x8x128_3_0_0).set := (View.set_reshape _ _).trans (am_set _ _ _ _)

/-- Sets named by rectangles that an axis separates are disjoint. -/
theorem apart {s : Shape} {off size off' size' : Fin s.rank → ℕ} {inb inb'} {A B : Finset s.Idx} (hA : A = (Rect.unit off size inb).set) (hB : B = (Rect.unit off' size' inb').set)
    (a : Fin s.rank) (h : off a + size a ≤ off' a ∨ off' a + size' a ≤ off a) : Disjoint A B := by
  subst hA hB; exact Rect.unit_disjoint a h
/-- A rectangle inside another. -/
theorem inside {s : Shape} {off size off' size' : Fin s.rank → ℕ} {inb inb'} {A B : Finset s.Idx} (hA : A = (Rect.unit off size inb).set) (hB : B = (Rect.unit off' size' inb').set)
    (h : ∀ a, off' a ≤ off a ∧ off a + size a ≤ off' a + size' a) : A ⊆ B := by
  subst hA hB
  intro i hi
  rw [Rect.mem_set_unit] at hi ⊢
  intro a
  have h1 := hi a
  have h2 := h a
  omega

/-! ## Staged blocks of `x` -/

def restX (c : Dev nD) : sProp 𝕄 := iprop(∃ f, ((xsM).view.loc (c : Thread nD τ) ↦[(Finset.univ \ (xs0).view.set) \ (xs1).view.set]{fullShare} f))
theorem xs_apart : Disjoint (xs0).view.set (xs1).view.set := apart (s := S2x1024x1024) xs0_set xs1_set 0 (by decide)
theorem xs_cut (c : Dev nD) : anyAt c xsM ⊢ (iprop(anyAt c xs0 ∗ anyAt c xs1 ∗ restX c) : sProp 𝕄) := by
  unfold anyAt pt restX
  iintro ⟨%f, H⟩
  ihave H := (raw_two (F := F) (ℓ := (xsM).view.loc (c : Thread nD τ)) (S := Finset.univ) (Finset.subset_univ (xs0).view.set) (Finset.subset_univ (xs1).view.set) xs_apart).1 $$ [H]
  · rw [show (xsM).view.set = Finset.univ from View.set_whole _]; iexact H
  icases H with ⟨H0, H1, Hr⟩
  isplitl [H0]; · iexists f; iexact H0
  isplitl [H1]; · iexists f; iexact H1
  iexists f; iexact Hr
theorem xs_join (c : Dev nD) : (iprop(anyAt c xs0 ∗ anyAt c xs1 ∗ restX c) : sProp 𝕄) ⊢ anyAt c xsM := by
  unfold anyAt pt restX
  rw [show (xsM).view.set = Finset.univ from View.set_whole _]
  exact raw_two_any (F := F) (ℓ := (xsM).view.loc (c : Thread nD τ)) (S := Finset.univ) (Finset.subset_univ (xs0).view.set) (Finset.subset_univ (xs1).view.set) xs_apart

/-! ## The slots of what is sent -/

def restB (c : Dev nD) : sProp 𝕄 := iprop(∃ f, ((sbM).view.loc (c : Thread nD τ) ↦[(((Finset.univ \ (sb0).view.set) \ (sb1).view.set) \ (sb2).view.set) \ (sb3).view.set]{fullShare} f))
theorem sb01 : Disjoint (sb0).view.set (sb1).view.set := apart (s := S4x1024x1024) sb0_set sb1_set 0 (by decide)
theorem sb02 : Disjoint (sb0).view.set (sb2).view.set := apart (s := S4x1024x1024) sb0_set (sb_set _ _ _ _) 0 (by decide)
theorem sb03 : Disjoint (sb0).view.set (sb3).view.set := apart (s := S4x1024x1024) sb0_set (sb_set _ _ _ _) 0 (by decide)
theorem sb12 : Disjoint (sb1).view.set (sb2).view.set := apart (s := S4x1024x1024) sb1_set (sb_set _ _ _ _) 0 (by decide)
theorem sb13 : Disjoint (sb1).view.set (sb3).view.set := apart (s := S4x1024x1024) sb1_set (sb_set _ _ _ _) 0 (by decide)
theorem sb23 : Disjoint (sb2).view.set (sb3).view.set := apart (s := S4x1024x1024) (sb_set _ _ _ _) (sb_set _ _ _ _) 0 (by decide)
theorem sb_cut (c : Dev nD) : anyAt c sbM ⊢ (iprop(anyAt c sb0 ∗ anyAt c sb1 ∗ anyAt c sb2 ∗ anyAt c sb3 ∗ restB c) : sProp 𝕄) := by
  unfold anyAt pt restB
  iintro ⟨%f, H⟩
  ihave H := (raw_four (F := F) (ℓ := (sbM).view.loc (c : Thread nD τ)) sb01 sb02 sb03 sb12 sb13 sb23).1 $$ [H]
  · rw [show (sbM).view.set = Finset.univ from View.set_whole _]; iexact H
  icases H with ⟨H0, H1, H2, H3, Hr⟩
  isplitl [H0]; · iexists f; iexact H0
  isplitl [H1]; · iexists f; iexact H1
  isplitl [H2]; · iexists f; iexact H2
  isplitl [H3]; · iexists f; iexact H3
  iexists f; iexact Hr
theorem sb_join (c : Dev nD) : (iprop(anyAt c sb0 ∗ anyAt c sb1 ∗ anyAt c sb2 ∗ anyAt c sb3 ∗ restB c) : sProp 𝕄) ⊢ anyAt c sbM := by
  unfold anyAt pt restB
  rw [show (sbM).view.set = Finset.univ from View.set_whole _]
  exact raw_four_any (F := F) (ℓ := (sbM).view.loc (c : Thread nD τ)) sb01 sb02 sb03 sb12 sb13 sb23

/-- The third slot in halves. -/
def restB2 (c : Dev nD) : sProp 𝕄 := iprop(∃ f, ((sbM).view.loc (c : Thread nD τ) ↦[((sb2).view.set \ (sb2a).view.set) \ (sb2b).view.set]{fullShare} f))
theorem sb2a_in : (sb2a).view.set ⊆ (sb2).view.set := inside (s := S4x1024x1024) sb2a_set (sb_set _ _ _ _) (by decide)
theorem sb2b_in : (sb2b).view.set ⊆ (sb2).view.set := inside (s := S4x1024x1024) sb2b_set (sb_set _ _ _ _) (by decide)
theorem sb2ab : Disjoint (sb2a).view.set (sb2b).view.set := apart (s := S4x1024x1024) sb2a_set sb2b_set 1 (by decide)
theorem sb2_cut (c : Dev nD) (f) : pt c sb2 fullShare f ⊢ (iprop(pt c sb2a fullShare f ∗ pt c sb2b fullShare f ∗ restB2 c) : sProp 𝕄) := by
  unfold pt restB2
  iintro H
  ihave H := (raw_two (F := F) (ℓ := (sbM).view.loc (c : Thread nD τ)) sb2a_in sb2b_in sb2ab).1 $$ H
  icases H with ⟨H0, H1, Hr⟩
  isplitl [H0]; · iexact H0
  isplitl [H1]; · iexact H1
  iexists f; iexact Hr
theorem sb2_join (c : Dev nD) : (iprop(anyAt c sb2a ∗ anyAt c sb2b ∗ restB2 c) : sProp 𝕄) ⊢ anyAt c sb2 := by
  unfold anyAt pt restB2
  exact raw_two_any (F := F) (ℓ := (sbM).view.loc (c : Thread nD τ)) sb2a_in sb2b_in sb2ab

/-! ## The receive slots -/

def restR (c : Dev nD) : sProp 𝕄 := iprop(∃ f, ((rbM).view.loc (c : Thread nD τ) ↦[(((Finset.univ \ (rb0).view.set) \ (rb1).view.set) \ (rb2a).view.set) \ (rb2b).view.set]{fullShare} f))
theorem rb01 : Disjoint (rb0).view.set (rb1).view.set := apart (s := S3x1024x1024) rb0_set rb1_set 0 (by decide)
theorem rb02 : Disjoint (rb0).view.set (rb2a).view.set := apart (s := S3x1024x1024) rb0_set rb2a_set 0 (by decide)
theorem rb03 : Disjoint (rb0).view.set (rb2b).view.set := apart (s := S3x1024x1024) rb0_set rb2b_set 0 (by decide)
theorem rb12 : Disjoint (rb1).view.set (rb2a).view.set := apart (s := S3x1024x1024) rb1_set rb2a_set 0 (by decide)
theorem rb13 : Disjoint (rb1).view.set (rb2b).view.set := apart (s := S3x1024x1024) rb1_set rb2b_set 0 (by decide)
theorem rb23 : Disjoint (rb2a).view.set (rb2b).view.set := apart (s := S3x1024x1024) rb2a_set rb2b_set 1 (by decide)
theorem rb_cut (c : Dev nD) : anyAt c rbM ⊢ (iprop(anyAt c rb0 ∗ anyAt c rb1 ∗ anyAt c rb2a ∗ anyAt c rb2b ∗ restR c) : sProp 𝕄) := by
  unfold anyAt pt restR
  iintro ⟨%f, H⟩
  ihave H := (raw_four (F := F) (ℓ := (rbM).view.loc (c : Thread nD τ)) rb01 rb02 rb03 rb12 rb13 rb23).1 $$ [H]
  · rw [show (rbM).view.set = Finset.univ from View.set_whole _]; iexact H
  icases H with ⟨H0, H1, H2, H3, Hr⟩
  isplitl [H0]; · iexists f; iexact H0
  isplitl [H1]; · iexists f; iexact H1
  isplitl [H2]; · iexists f; iexact H2
  isplitl [H3]; · iexists f; iexact H3
  iexists f; iexact Hr
theorem rb_join (c : Dev nD) : (iprop(anyAt c rb0 ∗ anyAt c rb1 ∗ anyAt c rb2a ∗ anyAt c rb2b ∗ restR c) : sProp 𝕄) ⊢ anyAt c rbM := by
  unfold anyAt pt restR
  rw [show (rbM).view.set = Finset.univ from View.set_whole _]
  exact raw_four_any (F := F) (ℓ := (rbM).view.loc (c : Thread nD τ)) rb01 rb02 rb03 rb12 rb13 rb23

/-! ## The slots of maxima -/

theorem am01 : Disjoint (am0).view.set (am1).view.set := apart (s := S4x8x128) am0_set am1_set 0 (by decide)
theorem am02 : Disjoint (am0).view.set (am2).view.set := apart (s := S4x8x128) am0_set am2_set 0 (by decide)
theorem am03 : Disjoint (am0).view.set (am3).view.set := apart (s := S4x8x128) am0_set am3_set 0 (by decide)
theorem am12 : Disjoint (am1).view.set (am2).view.set := apart (s := S4x8x128) am1_set am2_set 0 (by decide)
theorem am13 : Disjoint (am1).view.set (am3).view.set := apart (s := S4x8x128) am1_set am3_set 0 (by decide)
theorem am23 : Disjoint (am2).view.set (am3).view.set := apart (s := S4x8x128) am2_set am3_set 0 (by decide)
theorem am_mem (k : ℕ) (inb) (i : S4x8x128.Idx) (h : (i 0).val = k) : i ∈ (Rect.unit (s := S4x8x128) ![k, 0, 0] S1x8x128.size inb).set := by
  rw [Rect.mem_set_unit]
  intro a
  match a with
  | 0 => exact ⟨by show k ≤ (i 0).val; omega, by show (i 0).val < k + 1; omega⟩
  | 1 => exact ⟨Nat.zero_le _, by have := (i 1).isLt; change (i 1).val < 8 at this; show (i 1).val < 0 + 8; omega⟩
  | 2 => exact ⟨Nat.zero_le _, by have := (i 2).isLt; change (i 2).val < 128 at this; show (i 2).val < 0 + 128; omega⟩
theorem am_cover (i : S4x8x128.Idx) : i ∈ (am0).view.set ∨ i ∈ (am1).view.set ∨ i ∈ (am2).view.set ∨ i ∈ (am3).view.set := by
  have hi : (i 0).val < 4 := (i 0).isLt
  rw [am0_set, am1_set, am2_set, am3_set]
  by_cases h0 : (i 0).val = 0; · exact .inl (am_mem 0 _ i h0)
  by_cases h1 : (i 0).val = 1; · exact .inr (.inl (am_mem 1 _ i h1))
  by_cases h2 : (i 0).val = 2; · exact .inr (.inr (.inl (am_mem 2 _ i h2)))
  exact .inr (.inr (.inr (am_mem 3 _ i (by omega))))
theorem am_all (c : Dev nD) (f) : (pt c amM fullShare f : sProp 𝕄) ⊣⊢ iprop(pt c am0 fullShare f ∗ pt c am1 fullShare f ∗ pt c am2 fullShare f ∗ pt c am3 fullShare f) := by
  unfold pt
  rw [show (amM).view.set = Finset.univ from View.set_whole _]
  exact raw_four_all (F := F) (ℓ := (amM).view.loc (c : Thread nD τ)) am01 am02 am03 am12 am13 am23 am_cover
theorem am_cut (c : Dev nD) : anyAt c amM ⊢ (iprop(anyAt c am0 ∗ anyAt c am1 ∗ anyAt c am2 ∗ anyAt c am3) : sProp 𝕄) := by
  iintro ⟨%f, H⟩
  ihave H := (am_all c f).1 $$ H
  icases H with ⟨H0, H1, H2, H3⟩
  isplitl [H0]; · iexists f; iexact H0
  isplitl [H1]; · iexists f; iexact H1
  isplitl [H2]; · iexists f; iexact H2
  iexists f; iexact H3
/-- A device's own maximum in three shares. -/
theorem am3_shares (c : Dev nD) (f) : (pt c am3 fullShare f : sProp 𝕄) ⊣⊢ iprop(pt c am3 qa f ∗ pt c am3 qb f ∗ pt c am3 qc f) := by
  unfold pt
  have a := pointsTo_share (nD := nD) (τ := τ) (sig := sig) (Ix := Unit) (Val := Elt F) (Name := ℕ) (U := UU) (Lvl := ℕ) (ℓ := (amM).view.loc (c : Thread nD τ)) (I := (am3).view.set) (f := f) (PosShare.mem_left_op_right fullShare)
  have b := pointsTo_share (nD := nD) (τ := τ) (sig := sig) (Ix := Unit) (Val := Elt F) (Name := ℕ) (U := UU) (Lvl := ℕ) (ℓ := (amM).view.loc (c : Thread nD τ)) (I := (am3).view.set) (f := f) (PosShare.mem_left_op_right (fullShare : PosShare TreeShare).right)
  exact ⟨a.1.trans (sep_mono_right b.1), (sep_mono_right b.2).trans a.2⟩

/-! ## The running sum: halves, then quarters -/

def restY (c : Dev nD) : sProp 𝕄 := iprop(∃ f, ((yM).view.loc (c : Thread nD τ) ↦[(Finset.univ \ (yA).view.set) \ (yB).view.set]{fullShare} f))
def restA (c : Dev nD) : sProp 𝕄 := iprop(∃ f, ((yM).view.loc (c : Thread nD τ) ↦[((yA).view.set \ (yq0).view.set) \ (yq1).view.set]{fullShare} f))
def restC (c : Dev nD) : sProp 𝕄 := iprop(∃ f, ((yM).view.loc (c : Thread nD τ) ↦[((yB).view.set \ (yq2).view.set) \ (yq3).view.set]{fullShare} f))
theorem yAB : Disjoint (yA).view.set (yB).view.set := apart (s := S1024x2048) (y_set _ _ _ _) (y_set _ _ _ _) 0 (by decide)
theorem yq01 : Disjoint (yq0).view.set (yq1).view.set := apart (s := S1024x2048) (y_set _ _ _ _) (y_set _ _ _ _) 0 (by decide)
theorem yq23 : Disjoint (yq2).view.set (yq3).view.set := apart (s := S1024x2048) (y_set _ _ _ _) (y_set _ _ _ _) 0 (by decide)
theorem yq0_in : (yq0).view.set ⊆ (yA).view.set := inside (s := S1024x2048) (y_set _ _ _ _) (y_set _ _ _ _) (by decide)
theorem yq1_in : (yq1).view.set ⊆ (yA).view.set := inside (s := S1024x2048) (y_set _ _ _ _) (y_set _ _ _ _) (by decide)
theorem yq2_in : (yq2).view.set ⊆ (yB).view.set := inside (s := S1024x2048) (y_set _ _ _ _) (y_set _ _ _ _) (by decide)
theorem yq3_in : (yq3).view.set ⊆ (yB).view.set := inside (s := S1024x2048) (y_set _ _ _ _) (y_set _ _ _ _) (by decide)
theorem y_cut (c : Dev nD) (f) : pt c yM fullShare f ⊢ (iprop(pt c yA fullShare f ∗ pt c yB fullShare f ∗ restY c) : sProp 𝕄) := by
  unfold pt restY
  iintro H
  ihave H := (raw_two (F := F) (ℓ := (yM).view.loc (c : Thread nD τ)) (S := Finset.univ) (Finset.subset_univ (yA).view.set) (Finset.subset_univ (yB).view.set) yAB).1 $$ [H]
  · rw [show (yM).view.set = Finset.univ from View.set_whole _]; iexact H
  icases H with ⟨H0, H1, Hr⟩
  isplitl [H0]; · iexact H0
  isplitl [H1]; · iexact H1
  iexists f; iexact Hr
theorem yA_cut (c : Dev nD) (f) : pt c yA fullShare f ⊢ (iprop(pt c yq0 fullShare f ∗ pt c yq1 fullShare f ∗ restA c) : sProp 𝕄) := by
  unfold pt restA
  iintro H
  ihave H := (raw_two (F := F) (ℓ := (yM).view.loc (c : Thread nD τ)) yq0_in yq1_in yq01).1 $$ H
  icases H with ⟨H0, H1, Hr⟩
  isplitl [H0]; · iexact H0
  isplitl [H1]; · iexact H1
  iexists f; iexact Hr
theorem yB_cut (c : Dev nD) (f) : pt c yB fullShare f ⊢ (iprop(pt c yq2 fullShare f ∗ pt c yq3 fullShare f ∗ restC c) : sProp 𝕄) := by
  unfold pt restC
  iintro H
  ihave H := (raw_two (F := F) (ℓ := (yM).view.loc (c : Thread nD τ)) yq2_in yq3_in yq23).1 $$ H
  icases H with ⟨H0, H1, Hr⟩
  isplitl [H0]; · iexact H0
  isplitl [H1]; · iexact H1
  iexists f; iexact Hr
theorem y_join (c : Dev nD) : (iprop((anyAt c yq0 ∗ anyAt c yq1 ∗ restA c) ∗ (anyAt c yq2 ∗ anyAt c yq3 ∗ restC c) ∗ restY c) : sProp 𝕄) ⊢ anyAt c yM := by
  unfold anyAt pt restY restA restC
  rw [show (yM).view.set = Finset.univ from View.set_whole _]
  exact (BI.sep_mono (raw_two_any (F := F) (ℓ := (yM).view.loc (c : Thread nD τ)) yq0_in yq1_in yq01)
    (sep_mono_left (raw_two_any (F := F) (ℓ := (yM).view.loc (c : Thread nD τ)) yq2_in yq3_in yq23))).trans
    (raw_two_any (F := F) (ℓ := (yM).view.loc (c : Thread nD τ)) (S := Finset.univ) (Finset.subset_univ (yA).view.set) (Finset.subset_univ (yB).view.set) yAB)

/-! ## The quarters of the result -/

theorem q_mem (o : ℕ) (inb) (i : S1024x2048.Idx) (h : o ≤ (i 0).val) (h' : (i 0).val < o + 256) : i ∈ (Rect.unit (s := S1024x2048) ![o, 0] S256x2048.size inb).set := by
  rw [Rect.mem_set_unit]
  intro a
  match a with
  | 0 => exact ⟨h, h'⟩
  | 1 => exact ⟨Nat.zero_le _, by have := (i 1).isLt; change (i 1).val < 2048 at this; show (i 1).val < 0 + 2048; omega⟩
theorem o_cover (i : S1024x2048.Idx) : i ∈ (oq0).view.set ∨ i ∈ (oq1).view.set ∨ i ∈ (oq2).view.set ∨ i ∈ (oq3).view.set := by
  have hi : (i 0).val < 1024 := (i 0).isLt
  rw [show (oq0).view.set = _ from o_set _ _ _ _, show (oq1).view.set = _ from o_set _ _ _ _, show (oq2).view.set = _ from o_set _ _ _ _, show (oq3).view.set = _ from o_set _ _ _ _]
  by_cases h0 : (i 0).val < 256; · exact .inl (q_mem 0 _ i (by omega) (by omega))
  by_cases h1 : (i 0).val < 512; · exact .inr (.inl (q_mem 256 _ i (by omega) (by omega)))
  by_cases h2 : (i 0).val < 768; · exact .inr (.inr (.inl (q_mem 512 _ i (by omega) (by omega))))
  exact .inr (.inr (.inr (q_mem 768 _ i (by omega) (by omega))))
theorem o_all (c : Dev nD) (f) : (pt c oM fullShare f : sProp 𝕄) ⊣⊢ iprop(pt c oq0 fullShare f ∗ pt c oq1 fullShare f ∗ pt c oq2 fullShare f ∗ pt c oq3 fullShare f) := by
  unfold pt
  rw [show (oM).view.set = Finset.univ from View.set_whole _]
  exact raw_four_all (F := F) (ℓ := (oM).view.loc (c : Thread nD τ))
    (apart (s := S1024x2048) (o_set _ _ _ _) (o_set _ _ _ _) 0 (by decide)) (apart (s := S1024x2048) (o_set _ _ _ _) (o_set _ _ _ _) 0 (by decide))
    (apart (s := S1024x2048) (o_set _ _ _ _) (o_set _ _ _ _) 0 (by decide)) (apart (s := S1024x2048) (o_set _ _ _ _) (o_set _ _ _ _) 0 (by decide))
    (apart (s := S1024x2048) (o_set _ _ _ _) (o_set _ _ _ _) 0 (by decide)) (apart (s := S1024x2048) (o_set _ _ _ _) (o_set _ _ _ _) 0 (by decide)) o_cover

/-! ## What is lent of the operands -/

abbrev lentX (c : Dev nD) : sProp 𝕄 := iprop(pt c (xR c) qll (xin m c) ∗ pt c (xL c) qlr (xin m c) ∗ pt c (xO c) qrl (xin m c) ∗ pt c (xC c) qrr (xin m c))
abbrev lentW (c : Dev nD) : sProp 𝕄 := iprop(pt c (wC c) qll (win m c) ∗ pt c (wL c) qlr (win m c) ∗ pt c (wR c) qrl (win m c) ∗ pt c (wO c) qrr (win m c))
theorem x_lend (c : Dev nD) : (pt c xM fullShare (xin m c) : sProp 𝕄) ⊢ iprop(lentX m c ∗ (lentX m c -∗ pt c xM fullShare (xin m c))) := by
  unfold pt
  rw [show (xM).view.set = Finset.univ from View.set_whole _]
  exact raw_lend (F := F) (ℓ := (xM).view.loc (c : Thread nD τ)) _ _ _ _
theorem w_lend (c : Dev nD) : (pt c wM fullShare (win m c) : sProp 𝕄) ⊢ iprop(lentW m c ∗ (lentW m c -∗ pt c wM fullShare (win m c))) := by
  unfold pt
  rw [show (wM).view.set = Finset.univ from View.set_whole _]
  exact raw_lend (F := F) (ℓ := (wM).view.loc (c : Thread nD τ)) _ _ _ _

end Cert.KernelIdeal.Hand
-- ==== Proof.IdealParts1.lean ====
/-
# The body, part by part: the handshake and the sends of the blocks
-/
module

public import proofs.«01_k».proof.Proof.IdealGeom

@[expose] public section

noncomputable section

namespace Cert.KernelIdeal.Hand

open Cert.KernelIdeal Cert.KernelIdeal.Gen Cert.Steps

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × Fin 15 → ℕ)

/-- The counter of a semaphore of local copies at zero. -/
abbrev sz (c : Dev nD) (j : DmaSem sig) : sProp 𝕄 := semVal ((c : Thread nD τ), .dma j) 0
/-- A local copy in flight. -/
abbrev fly (c : Dev nD) (j : DmaSem sig) (N : ℕ) (D : sProp 𝕄) : sProp 𝕄 := Transfers.Flight EC (c : Thread nD τ) (.dma j) () N D

/-- The credits of the local copies: a staged block of `x`, of `w`, a quarter of the result. -/
def crX : ℕ := (xs0 : Memref sig .tc .vmem S1024x1024 .f32).view.dmaCredit
def crW : ℕ := (wsM : Memref sig .tc .vmem S1024x2048 .f32).view.dmaCredit
def crQ : ℕ := (oq0 : Memref sig .tc .hbm S256x2048 .f32).view.dmaCredit

variable {defs : Defs nD τ sig (Elt F) Λ₀}

/-- What a device's three signals hand over: its own landing places. -/
theorem give_lf (c : Dev nD) : iprop(anyAt c rb0 ∗ anyAt c am0) ⊢ pay m (lf c) 0 0 :=
  Entails.of_eq (by show _ = iprop(anyAt (rt (lf c)) rb0 ∗ anyAt (rt (lf c)) am0); rw [rt_lf])
theorem give_rt (c : Dev nD) : iprop(anyAt c rb1 ∗ anyAt c am1) ⊢ pay m (rt c) 0 1 :=
  Entails.of_eq (by show _ = iprop(anyAt (lf (rt c)) rb1 ∗ anyAt (lf (rt c)) am1); rw [lf_rt])
theorem give_op (c : Dev nD) : iprop(anyAt c rb2a ∗ anyAt c rb2b ∗ anyAt c am2) ⊢ pay m (op c) 0 2 :=
  Entails.of_eq (by show _ = iprop(anyAt (op (op c)) rb2a ∗ anyAt (op (op c)) rb2b ∗ anyAt (op (op c)) am2); rw [op_op])
/-- What the three signals to a device bring it. -/
theorem get_all (c : Dev nD) : iprop(pay m c 0 0 ∗ pay m c 0 1 ∗ pay m c 0 2)
    ⊢ iprop((anyAt (rt c) rb0 ∗ anyAt (rt c) am0) ∗ (anyAt (lf c) rb1 ∗ anyAt (lf c) am1) ∗ anyAt (op c) rb2a ∗ anyAt (op c) rb2b ∗ anyAt (op c) am2) := Entails.of_eq rfl

set_option maxHeartbeats 1000000 in
/-- The handshake; the first two blocks of `x` are staged. -/
theorem part2 (c : Dev nD) (v13 v24 v35 : BitVec 32) (Q : PUnit → sProp 𝕄) :
    iprop(recs m K ∗ (tok (lf c) 0 0 ∗ tok (rt c) 0 1 ∗ tok (op c) 0 2)
        ∗ (anyAt c rb0 ∗ anyAt c rb1 ∗ anyAt c rb2a ∗ anyAt c rb2b) ∗ (anyAt c am0 ∗ anyAt c am1 ∗ anyAt c am2)
        ∗ crd c 0 3 ∗ pos c 0 ∗ Owe c 0
        ∗ pt c (xR c) qll (xin m c) ∗ pt c (xL c) qlr (xin m c) ∗ anyAt c xs0 ∗ anyAt c xs1 ∗ sz c 0 ∗ sz c 1)
      ⊢ iprop(((anyAt (rt c) rb0 ∗ anyAt (lf c) rb1 ∗ anyAt (op c) rb2a ∗ anyAt (op c) rb2b)
            ∗ (anyAt (rt c) am0 ∗ anyAt (lf c) am1 ∗ anyAt (op c) am2)
            ∗ zero c 0 ∗ Owe c 3 ∗ pt c (xR c) qll (xin m c) ∗ pt c xs0 fullShare (up (bR m c)) ∗ sz c 0
            ∗ fly c 1 crX iprop(pt c xs1 fullShare (up (bL m c)) ∗ pt c (xL c) qlr (xin m c)) -∗ Q ⟨⟩)
        -∗ wp frame (wpE defs Variants.none (c : Thread nD τ) none) Set.univ (k0_part2 xM (Memref.isWhole_whole _) wM (Memref.isWhole_whole _) oM (Memref.isWhole_whole _) xsM (Memref.isWhole_whole _) sbM (Memref.isWhole_whole _) rbM (Memref.isWhole_whole _) wsM (Memref.isWhole_whole _) wbM (Memref.isWhole_whole _) yM (Memref.isWhole_whole _) amM (Memref.isWhole_whole _) cc0_scratch7 cc0_scratch8 cc0_scratch9 cc0_scratch10 cc0_scratch11 cc0_scratch12 cc0_scratch13 c v13 v24 v35) Q) := by
  rw [k0_part2_eq_skeleton]; unfold k0_part2_skel
  simp only [semSignalWord, semWaitWord, Prog.lift, Prog.bind_op, Prog.bind_ret, Prog.pure_eq_ret]
  iintro ⟨#HR, ⟨Ht0, Ht1, Ht2⟩, ⟨Hr0, Hr1, Hr2a, Hr2b⟩, ⟨Ha0, Ha1, Ha2⟩, Hc, Hp, Ho, HxR, HxL, ⟨%f0, Hs0⟩, ⟨%f1, Hs1⟩, Hz0, Hz1⟩ Hk
  iapply (sig_step m K c (lf c) _ 0 0 (dev1_eq c) rfl rfl (by decide)) $$ [Ho Ht0 Hr0 Ha0]
  · isplitr; · iexact HR
    isplitl [Ho]; · iexact Ho
    isplitl [Ht0]; · iexact Ht0
    iapply (give_lf m c)
    isplitl [Hr0] <;> iassumption
  iintro Ho
  iapply (sig_step m K c (rt c) _ 1 1 (dev2_eq c) rfl rfl (by decide)) $$ [Ho Ht1 Hr1 Ha1]
  · isplitr; · iexact HR
    isplitl [Ho]; · iexact Ho
    isplitl [Ht1]; · iexact Ht1
    iapply (give_rt m c)
    isplitl [Hr1] <;> iassumption
  iintro Ho
  iapply (sig_step m K c (op c) _ 2 2 (dev3_eq c) rfl rfl (by decide)) $$ [Ho Ht2 Hr2a Hr2b Ha2]
  · isplitr; · iexact HR
    isplitl [Ho]; · iexact Ho
    isplitl [Ht2]; · iexact Ht2
    iapply (give_op m c)
    isplitl [Hr2a]; · iexact Hr2a
    isplitl [Hr2b] <;> iassumption
  iintro Ho
  iapply (bar_step m K c 3 rfl (by decide) (by decide)) $$ [Hc Ho Hp]
  · isplitr; · iexact HR
    isplitl [Hc]; · iexact Hc
    isplitl [Ho] <;> iassumption
  iintro ⟨Hg, Hzb, Ho⟩
  ihave Hg := (get_all m c) $$ Hg
  icases Hg with ⟨⟨Hr0, Ha0⟩, ⟨Hr1, Ha1⟩, Hr2a, Hr2b, Ha2⟩
  iapply (cp c EC (up (bR m c)) (View.dmaCredit_pos _ (by decide)) (cp_xs0 _)) $$ [HxR Hs0 Hz0]
  · isplitl [HxR]; · iexact HxR
    isplitl [Hs0]; · iexact Hs0
    iexact Hz0
  iintro Hf0
  iapply (cp c EC (up (bL m c)) (View.dmaCredit_pos _ (by decide)) (cp_xs1 _)) $$ [HxL Hs1 Hz1]
  · isplitl [HxL]; · iexact HxL
    isplitl [Hs1]; · iexact Hs1
    iexact Hz1
  iintro Hf1
  iapply (copy_wait m K c 3 rfl (by decide)) $$ [Hf0 Ho]
  · isplitr; · iexact HR
    isplitl [Hf0]; · iexact Hf0
    iexact Ho
  iintro ⟨⟨Hs0, HxR⟩, Hz0, Ho⟩
  rw [wp_ret]; imodintro
  iapply Hk
  isplitl [Hr0 Hr1 Hr2a Hr2b]
  · isplitl [Hr0]; · iexact Hr0
    isplitl [Hr1]; · iexact Hr1
    isplitl [Hr2a] <;> iassumption
  isplitl [Ha0 Ha1 Ha2]
  · isplitl [Ha0]; · iexact Ha0
    isplitl [Ha1] <;> iassumption
  isplitl [Hzb]; · iexact Hzb
  isplitl [Ho]; · iexact Ho
  isplitl [HxR]; · iexact HxR
  isplitl [Hs0]; · iexact Hs0
  isplitl [Hz0]; · iexact Hz0
  iexact Hf1

set_option maxHeartbeats 1000000 in
/-- The block for the right neighbour leaves; the block for the opposite device is staged. -/
theorem part3 (c : Dev nD) (v13 v35 : BitVec 32) (Q : PUnit → sProp 𝕄) :
    iprop(recs m K ∗ pt c xs0 fullShare (up (bR m c)) ∗ anyAt c sb0 ∗ anyAt (rt c) rb0 ∗ Owe c 3 ∗ tok c 1 0 ∗ tok (rt c) 5 0
        ∗ pt c (xO c) qrl (xin m c) ∗ sz c 0 ∗ fly c 1 crX iprop(pt c xs1 fullShare (up (bL m c)) ∗ pt c (xL c) qlr (xin m c)))
      ⊢ iprop((crd c 1 crS ∗ Owe c 4 ∗ fly c 0 crX iprop(pt c xs0 fullShare (up (bO m c)) ∗ pt c (xO c) qrl (xin m c))
            ∗ pt c xs1 fullShare (up (bL m c)) ∗ pt c (xL c) qlr (xin m c) ∗ sz c 1 -∗ Q ⟨⟩)
        -∗ wp frame (wpE defs Variants.none (c : Thread nD τ) none) Set.univ (k0_part3 xM (Memref.isWhole_whole _) wM (Memref.isWhole_whole _) oM (Memref.isWhole_whole _) xsM (Memref.isWhole_whole _) sbM (Memref.isWhole_whole _) rbM (Memref.isWhole_whole _) wsM (Memref.isWhole_whole _) wbM (Memref.isWhole_whole _) yM (Memref.isWhole_whole _) amM (Memref.isWhole_whole _) cc0_scratch7 cc0_scratch8 cc0_scratch9 cc0_scratch10 cc0_scratch11 cc0_scratch12 cc0_scratch13 c v13 v35) Q) := by
  rw [k0_part3_eq_skeleton]; unfold k0_part3_skel
  simp only [Prog.lift, Prog.bind_op, Prog.bind_ret, Prog.pure_eq_ret]
  iintro ⟨#HR, Hs0, ⟨%f, Hb⟩, Hr, Ho, HtS, HtR, HxO, Hz0, Hf1⟩ Hk
  iapply (ld_slot c (rd_xs0 (bR m c))) $$ Hs0; iintro Hs0
  iapply (ld_slot c rfl) $$ Hb; iintro Hb
  iapply (st_slot c (up (sR m c)) (rd_sb0 _)) $$ Hb; iintro Hb
  iapply (send_step m K c (rt c) _ 3 (dev4_eq c) 1 5 (by decide) (by decide) rfl rfl rfl rfl rfl (up (sR m c)) (send_0 _) (Entails.of_eq rfl)
    (Entails.of_eq (by rw [dev4_eq c]; show _ = pt (rt c) rb0 fullShare (up (sR m (lf (rt c)))); rw [lf_rt]))) $$ [Hb Hr Ho HtS HtR]
  · isplitr; · iexact HR
    isplitl [Hb]; · iexact Hb
    isplitl [Hr]; · rw [dev4_eq c]; iexact Hr
    isplitl [Ho]; · iexact Ho
    isplitl [HtS] <;> iassumption
  iintro ⟨Hc, Ho⟩
  iapply (cp c EC (up (bO m c)) (View.dmaCredit_pos _ (by decide)) (cp_xs0 _)) $$ [HxO Hs0 Hz0]
  · isplitl [HxO]; · iexact HxO
    isplitl [Hs0]; · iexact Hs0
    iexact Hz0
  iintro Hf0
  iapply (copy_wait m K c 4 rfl (by decide)) $$ [Hf1 Ho]
  · isplitr; · iexact HR
    isplitl [Hf1]; · iexact Hf1
    iexact Ho
  iintro ⟨⟨Hs1, HxL⟩, Hz1, Ho⟩
  rw [wp_ret]; imodintro
  iapply Hk
  isplitl [Hc]; · iexact Hc
  isplitl [Ho]; · iexact Ho
  isplitl [Hf0]; · iexact Hf0
  isplitl [Hs1]; · iexact Hs1
  isplitl [HxL]; · iexact HxL
  iexact Hz1

end Cert.KernelIdeal.Hand
-- ==== Proof.IdealParts2.lean ====
/-
# The body, part by part: sends and products
-/
module

public import proofs.«01_k».proof.Proof.IdealParts1

@[expose] public section

noncomputable section

namespace Cert.KernelIdeal.Hand

open Cert.KernelIdeal Cert.KernelIdeal.Gen Cert.Steps

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × Fin 15 → ℕ)

variable {defs : Defs nD τ sig (Elt F) Λ₀}

/-- Credit for the one payment to a cell. -/
abbrev crr (c : Dev nD) (k : Fin 15) : sProp 𝕄 := crd c k (amt k.val)

theorem hz2 : (![0, 0] : Fin 2 → ℕ) = fun _ => 0 := by funext a; fin_cases a <;> rfl
theorem hz3 : (![0, 0, 0] : Fin 3 → ℕ) = fun _ => 0 := by funext a; fin_cases a <;> rfl
theorem cp_ws (V : S1024x2048.Idx → Elt F .f32) : (wsM).view.read (Elt F) V = V := View.read_whole _ _

/-! What a wait at each cell brings. -/

theorem got5 (c : Dev nD) : pay m c (5 : Fin 15).val 0 ⊢ (pt c rb0 fullShare (up (sR m (lf c))) : sProp 𝕄) := Entails.of_eq rfl
theorem got6 (c : Dev nD) : pay m c (6 : Fin 15).val 0 ⊢ (pt c rb1 fullShare (up (sL m (rt c))) : sProp 𝕄) := Entails.of_eq rfl
theorem got7 (c : Dev nD) : pay m c (7 : Fin 15).val 0 ⊢ (pt c rb2a fullShare (up (sO m (op c))) : sProp 𝕄) := Entails.of_eq rfl
theorem got8 (c : Dev nD) : pay m c (8 : Fin 15).val 0 ⊢ (pt c rb2b fullShare (up (sO m (op c))) : sProp 𝕄) := Entails.of_eq rfl
theorem got1 (c : Dev nD) : pay m c (1 : Fin 15).val 0 ⊢ (pt c sb0 fullShare (up (sR m c)) : sProp 𝕄) := Entails.of_eq rfl
theorem got2 (c : Dev nD) : pay m c (2 : Fin 15).val 0 ⊢ (pt c sb1 fullShare (up (sL m c)) : sProp 𝕄) := Entails.of_eq rfl
theorem got3 (c : Dev nD) : pay m c (3 : Fin 15).val 0 ⊢ (pt c sb2a fullShare (up (sO m c)) : sProp 𝕄) := Entails.of_eq rfl
theorem got4 (c : Dev nD) : pay m c (4 : Fin 15).val 0 ⊢ (pt c sb2b fullShare (up (sO m c)) : sProp 𝕄) := Entails.of_eq rfl
theorem got9 (c : Dev nD) : pay m c (9 : Fin 15).val 0 ⊢ (pt c am3 qa (amAll m c) : sProp 𝕄) := Entails.of_eq rfl
theorem got10 (c : Dev nD) : pay m c (10 : Fin 15).val 0 ⊢ (pt c am3 qb (amAll m c) : sProp 𝕄) := Entails.of_eq rfl
theorem got11 (c : Dev nD) : pay m c (11 : Fin 15).val 0 ⊢ (pt c am3 qc (amAll m c) : sProp 𝕄) := Entails.of_eq rfl
theorem got12 (c : Dev nD) : pay m c (12 : Fin 15).val 0 ⊢ (pt c am0 fullShare (amAll m c) : sProp 𝕄) := Entails.of_eq rfl
theorem got13 (c : Dev nD) : pay m c (13 : Fin 15).val 0 ⊢ (pt c am1 fullShare (amAll m c) : sProp 𝕄) := Entails.of_eq rfl
theorem got14 (c : Dev nD) : pay m c (14 : Fin 15).val 0 ⊢ (pt c am2 fullShare (amAll m c) : sProp 𝕄) := Entails.of_eq rfl

set_option maxHeartbeats 1000000 in
/-- The block for the left neighbour leaves; the device's own block is staged; the block for the opposite device is read. -/
theorem part4 (c : Dev nD) (v2 v24 : BitVec 32) (Q : FVec F S1024x1024 .f32 → sProp 𝕄) :
    iprop(recs m K ∗ pt c xs1 fullShare (up (bL m c)) ∗ anyAt c sb1 ∗ anyAt (lf c) rb1 ∗ Owe c 4 ∗ tok c 2 0 ∗ tok (lf c) 6 0 ∗ pt c (xC c) qrr (xin m c) ∗ sz c 1 ∗ fly c 0 crX iprop(pt c xs0 fullShare (up (bO m c)) ∗ pt c (xO c) qrl (xin m c)))
      ⊢ iprop((crr c 2 ∗ Owe c 5 ∗ fly c 1 crX iprop(pt c xs1 fullShare (up (bC m c)) ∗ pt c (xC c) qrr (xin m c)) ∗ anyAt c xs0 ∗ pt c (xO c) qrl (xin m c) ∗ sz c 0 -∗ Q (k0_pay3 (bO m c)))
        -∗ wp frame (wpE defs Variants.none (c : Thread nD τ) none) Set.univ (k0_part4 xM (Memref.isWhole_whole _) wM (Memref.isWhole_whole _) oM (Memref.isWhole_whole _) xsM (Memref.isWhole_whole _) sbM (Memref.isWhole_whole _) rbM (Memref.isWhole_whole _) wsM (Memref.isWhole_whole _) wbM (Memref.isWhole_whole _) yM (Memref.isWhole_whole _) amM (Memref.isWhole_whole _) cc0_scratch7 cc0_scratch8 cc0_scratch9 cc0_scratch10 cc0_scratch11 cc0_scratch12 cc0_scratch13 c v2 v24) Q) := by
  rw [k0_part4_eq_skeleton]; unfold k0_part4_skel
  simp only [Prog.lift, Prog.bind_op, Prog.bind_ret, Prog.pure_eq_ret]
  iintro ⟨#HR, Hs1, ⟨%f1, Hb⟩, Hr, Ho, HtS, HtR, HxC, Hz1, Hf0⟩ Hk
  iapply (ld_slot c (rd_xs1 (bL m c))) $$ Hs1; iintro Hs1
  iapply (ld_slot c rfl) $$ Hb; iintro Hb
  iapply (st_slot c (up (sL m c)) (rd_sb1 _)) $$ Hb; iintro Hb
  iapply (send_step m K c (lf c) _ 4 (dev5_eq c) 2 6 (dst := rb1) (by decide) (by decide) rfl rfl rfl rfl rfl (up (sL m c)) (send_1 _) (Entails.of_eq rfl)
    (Entails.of_eq (by rw [dev5_eq c]; show _ = pt (lf c) rb1 fullShare (up (sL m (rt (lf c)))); rw [rt_lf]))) $$ [Hb Hr Ho HtS HtR]
  · isplitr; · iexact HR
    isplitl [Hb]; · iexact Hb
    isplitl [Hr]; · rw [dev5_eq c]; iexact Hr
    isplitl [Ho]; · iexact Ho
    isplitl [HtS]; · iexact HtS
    iexact HtR
  iintro ⟨Hc, Ho⟩
  iapply (cp c EC (up (bC m c)) (View.dmaCredit_pos _ (by decide)) (cp_xs1 _)) $$ [HxC Hs1 Hz1]
  · isplitl [HxC]; · iexact HxC
    isplitl [Hs1]; · iexact Hs1
    iexact Hz1
  iintro Hf1
  iapply (copy_wait m K c 5 rfl (by decide)) $$ [Hf0 Ho]
  · isplitr; · iexact HR
    isplitl [Hf0]; · iexact Hf0
    iexact Ho
  iintro ⟨⟨Hs0, HxO⟩, Hz0, Ho⟩
  iapply (ld_slot c (rd_xs0 (bO m c))) $$ Hs0; iintro Hs0
  rw [wp_ret]; imodintro
  iapply Hk
  isplitl [Hc]; · iexact Hc
  isplitl [Ho]; · iexact Ho
  isplitl [Hf1]; · iexact Hf1
  isplitl [Hs0]; · iexists _; iexact Hs0
  isplitl [HxO]; · iexact HxO
  iexact Hz0

set_option maxHeartbeats 1000000 in
/-- The block for the opposite device leaves in two halves. -/
theorem part5 (c : Dev nD) (v35 : BitVec 32) (Q : PUnit → sProp 𝕄) :
    iprop(recs m K ∗ anyAt c sb2 ∗ anyAt (op c) rb2a ∗ anyAt (op c) rb2b ∗ Owe c 5 ∗ tok c 3 0 ∗ tok (op c) 7 0 ∗ tok c 4 0 ∗ tok (op c) 8 0)
      ⊢ iprop((crr c 3 ∗ crr c 4 ∗ Owe c 7 ∗ restB2 c -∗ Q ⟨⟩)
        -∗ wp frame (wpE defs Variants.none (c : Thread nD τ) none) Set.univ (k0_part5 xM (Memref.isWhole_whole _) wM (Memref.isWhole_whole _) oM (Memref.isWhole_whole _) xsM (Memref.isWhole_whole _) sbM (Memref.isWhole_whole _) rbM (Memref.isWhole_whole _) wsM (Memref.isWhole_whole _) wbM (Memref.isWhole_whole _) yM (Memref.isWhole_whole _) amM (Memref.isWhole_whole _) cc0_scratch7 cc0_scratch8 cc0_scratch9 cc0_scratch10 cc0_scratch11 cc0_scratch12 cc0_scratch13 c v35 (k0_pay3 (bO m c))) Q) := by
  rw [k0_part5_eq_skeleton]; unfold k0_part5_skel
  simp only [Prog.lift, Prog.bind_op, Prog.bind_ret, Prog.pure_eq_ret]
  iintro ⟨#HR, ⟨%f0, Hb⟩, Hra, Hrb, Ho, Ht3, Ht7, Ht4, Ht8⟩ Hk
  iapply (ld_rect c rfl) $$ Hb; iintro Hb
  iapply (st_rect c (up (sO m c)) (rd_sb2 _)) $$ Hb; iintro Hb
  ihave Hb := (sb2_cut c (up (sO m c))) $$ Hb
  icases Hb with ⟨Hba, Hbb, Hrest⟩
  iapply (send_step m K c (op c) _ 5 (dev6_eq c) 3 7 (dst := rb2a) (by decide) (by decide) rfl rfl rfl rfl rfl (up (sO m c)) (send_2 _) (Entails.of_eq rfl)
    (Entails.of_eq (by rw [dev6_eq c]; show _ = pt (op c) rb2a fullShare (up (sO m (op (op c)))); rw [op_op]))) $$ [Hba Hra Ho Ht3 Ht7]
  · isplitr; · iexact HR
    isplitl [Hba]; · iexact Hba
    isplitl [Hra]; · rw [dev6_eq c]; iexact Hra
    isplitl [Ho]; · iexact Ho
    isplitl [Ht3]; · iexact Ht3
    iexact Ht7
  iintro ⟨Hc3, Ho⟩
  iapply (send_step m K c (op c) _ 6 (dev7_eq c) 4 8 (dst := rb2b) (by decide) (by decide) rfl rfl rfl rfl rfl (up (sO m c)) (send_3 _) (Entails.of_eq rfl)
    (Entails.of_eq (by rw [dev7_eq c]; show _ = pt (op c) rb2b fullShare (up (sO m (op (op c)))); rw [op_op]))) $$ [Hbb Hrb Ho Ht4 Ht8]
  · isplitr; · iexact HR
    isplitl [Hbb]; · iexact Hbb
    isplitl [Hrb]; · rw [dev7_eq c]; iexact Hrb
    isplitl [Ho]; · iexact Ho
    isplitl [Ht4]; · iexact Ht4
    iexact Ht8
  iintro ⟨Hc4, Ho⟩
  rw [wp_ret]; imodintro
  iapply Hk
  isplitl [Hc3]; · iexact Hc3
  isplitl [Hc4]; · iexact Hc4
  isplitl [Ho]; · iexact Ho
  iexact Hrest

set_option maxHeartbeats 1000000 in
/-- The device's own block is rounded and multiplied; the left neighbour's rows of `w` are staged. -/
theorem part6 (c : Dev nD) (v2 v24 : BitVec 32) (Q : FVec F S1024x2048 .bf16 → sProp 𝕄) :
    iprop(recs m K ∗ fly c 1 crX iprop(pt c xs1 fullShare (up (bC m c)) ∗ pt c (xC c) qrr (xin m c)) ∗ anyAt c sb3 ∗ Owe c 7 ∗ sz c 2 ∗ pt c (wC c) qll (win m c) ∗ pt c (wL c) qlr (win m c) ∗ anyAt c wsM ∗ anyAt c wbM ∗ anyAt c yM)
      ⊢ iprop((anyAt c xs1 ∗ pt c (xC c) qrr (xin m c) ∗ sz c 1 ∗ anyAt c sb3 ∗ Owe c 7 ∗ sz c 2 ∗ pt c (wC c) qll (win m c) ∗ pt c (wL c) qlr (win m c) ∗ anyAt c wsM ∗ anyAt c wbM ∗ pt c yM fullShare (y0 m c) -∗ Q (k0_pay8 (vL m c)))
        -∗ wp frame (wpE defs Variants.none (c : Thread nD τ) none) Set.univ (k0_part6 xM (Memref.isWhole_whole _) wM (Memref.isWhole_whole _) oM (Memref.isWhole_whole _) xsM (Memref.isWhole_whole _) sbM (Memref.isWhole_whole _) rbM (Memref.isWhole_whole _) wsM (Memref.isWhole_whole _) wbM (Memref.isWhole_whole _) yM (Memref.isWhole_whole _) amM (Memref.isWhole_whole _) cc0_scratch7 cc0_scratch8 cc0_scratch9 cc0_scratch10 cc0_scratch11 cc0_scratch12 cc0_scratch13 c v2 v24) Q) := by
  rw [k0_part6_eq_skeleton]; unfold k0_part6_skel
  simp only [Prog.lift, Prog.bind_op, Prog.bind_ret, Prog.pure_eq_ret]
  iintro ⟨#HR, Hf1, ⟨%f1, Hb⟩, Ho, Hz2, HwC, HwL, ⟨%f6, Hws⟩, ⟨%f7, Hwb⟩, ⟨%f8, Hy⟩⟩ Hk
  iapply (copy_wait m K c 7 rfl (by decide)) $$ [Hf1 Ho]
  · isplitr; · iexact HR
    isplitl [Hf1]; · iexact Hf1
    iexact Ho
  iintro ⟨⟨Hs1, HxC⟩, Hz1, Ho⟩
  iapply (ld_slot c (rd_xs1 (bC m c))) $$ Hs1; iintro Hs1
  iapply (ld_rect c rfl) $$ Hb; iintro Hb
  iapply (st_rect c (up (sC m c)) (rd_sb3 _)) $$ Hb; iintro Hb
  iapply (cp c EC (vC m c) (View.dmaCredit_pos _ (by decide)) (cp_ws _)) $$ [HwC Hws Hz2]
  · isplitl [HwC]; · iexact HwC
    isplitl [Hws]; · iexact Hws
    iexact Hz2
  iintro Hf2
  iapply (copy_wait m K c 7 rfl (by decide)) $$ [Hf2 Ho]
  · isplitr; · iexact HR
    isplitl [Hf2]; · iexact Hf2
    iexact Ho
  iintro ⟨⟨Hws, HwC⟩, Hz2, Ho⟩
  iapply (ld_whole c (View.set_whole _) (Memref.readAt_unit_zero (Elt F) cc0_scratch3 hz2 _ _)) $$ Hws; iintro Hws
  iapply (ld_whole c (View.set_whole _) rfl) $$ Hwb; iintro Hwb
  iapply (st_whole c (uC m c) (View.set_whole _) (Memref.write_access_unit_zero_univ (Elt F) cc0_scratch4 hz2 _ _ _)) $$ Hwb; iintro Hwb
  iapply (cp c EC (vL m c) (View.dmaCredit_pos _ (by decide)) (cp_ws _)) $$ [HwL Hws Hz2]
  · isplitl [HwL]; · iexact HwL
    isplitl [Hws]; · iexact Hws
    iexact Hz2
  iintro Hf2
  iapply (ld_rect c (rd_sb3 _)) $$ Hb; iintro Hb
  iapply (ld_whole c (View.set_whole _) (Memref.readAt_unit_zero (Elt F) cc0_scratch4 hz2 _ _)) $$ Hwb; iintro Hwb
  iapply (ld_whole c (View.set_whole _) rfl) $$ Hy; iintro Hy
  iapply (st_whole c (y0 m c) (View.set_whole _) (Memref.write_access_unit_zero_univ (Elt F) cc0_scratch5 hz2 _ _ _)) $$ Hy; iintro Hy
  iapply (copy_wait m K c 7 rfl (by decide)) $$ [Hf2 Ho]
  · isplitr; · iexact HR
    isplitl [Hf2]; · iexact Hf2
    iexact Ho
  iintro ⟨⟨Hws, HwL⟩, Hz2, Ho⟩
  iapply (ld_whole c (View.set_whole _) (Memref.readAt_unit_zero (Elt F) cc0_scratch3 hz2 _ _)) $$ Hws; iintro Hws
  rw [wp_ret]; imodintro
  iapply Hk
  isplitl [Hs1]; · iexists _; iexact Hs1
  isplitl [HxC]; · iexact HxC
  isplitl [Hz1]; · iexact Hz1
  isplitl [Hb]; · iexists _; iexact Hb
  isplitl [Ho]; · iexact Ho
  isplitl [Hz2]; · iexact Hz2
  isplitl [HwC]; · iexact HwC
  isplitl [HwL]; · iexact HwL
  isplitl [Hws]; · iexists _; iexact Hws
  isplitl [Hwb]; · iexists _; iexact Hwb
  iexact Hy

set_option maxHeartbeats 1000000 in
/-- The left neighbour's block arrives and is multiplied in; the right neighbour's rows of `w` are staged. -/
theorem part7 (c : Dev nD) (v13 : BitVec 32) (Q : (Σ' (v195 : FVec F S1024x2048 .bf16), Vec F S1024x2048 .bf16) → sProp 𝕄) :
    iprop(recs m K ∗ anyAt c wbM ∗ pt c (wR c) qrl (win m c) ∗ anyAt c wsM ∗ sz c 2 ∗ crr c 5 ∗ Owe c 7 ∗ pos c 5 ∗ pt c yM fullShare (y0 m c))
      ⊢ iprop((anyAt c wbM ∗ pt c (wR c) qrl (win m c) ∗ anyAt c wsM ∗ sz c 2 ∗ Owe c 7 ∗ zero c 5 ∗ anyAt c rb0 ∗ pt c yM fullShare (y1 m c) -∗ Q ⟨k0_pay11 (vR m c), uL m c⟩)
        -∗ wp frame (wpE defs Variants.none (c : Thread nD τ) none) Set.univ (k0_part7 xM (Memref.isWhole_whole _) wM (Memref.isWhole_whole _) oM (Memref.isWhole_whole _) xsM (Memref.isWhole_whole _) sbM (Memref.isWhole_whole _) rbM (Memref.isWhole_whole _) wsM (Memref.isWhole_whole _) wbM (Memref.isWhole_whole _) yM (Memref.isWhole_whole _) amM (Memref.isWhole_whole _) cc0_scratch7 cc0_scratch8 cc0_scratch9 cc0_scratch10 cc0_scratch11 cc0_scratch12 cc0_scratch13 c v13 (k0_pay8 (vL m c))) Q) := by
  rw [k0_part7_eq_skeleton]; unfold k0_part7_skel
  simp only [Prog.lift, Prog.bind_op, Prog.bind_ret, Prog.pure_eq_ret]
  iintro ⟨#HR, ⟨%f0, Hwb⟩, HwR, ⟨%f2, Hws⟩, Hz2, Hc, Ho, Hp, Hy⟩ Hk
  iapply (ld_whole c (View.set_whole _) rfl) $$ Hwb; iintro Hwb
  iapply (st_whole c (uL m c) (View.set_whole _) (Memref.write_access_unit_zero_univ (Elt F) cc0_scratch4 hz2 _ _ _)) $$ Hwb; iintro Hwb
  iapply (cp c EC (vR m c) (View.dmaCredit_pos _ (by decide)) (cp_ws _)) $$ [HwR Hws Hz2]
  · isplitl [HwR]; · iexact HwR
    isplitl [Hws]; · iexact Hws
    iexact Hz2
  iintro Hf2
  iapply (wait_step m K c 7 5 (dstw := rb0) (by decide) rfl rfl (by decide)) $$ [Hc Ho Hp]
  · isplitr; · iexact HR
    isplitl [Hc]; · iexact Hc
    isplitl [Ho]; · iexact Ho
    iexact Hp
  iintro ⟨Hr, Hz, Ho⟩
  ihave Hr := (got5 m c) $$ Hr
  iapply (ld_whole c (View.set_whole _) (Memref.readAt_unit_zero (Elt F) cc0_scratch5 hz2 _ _)) $$ Hy; iintro Hy
  iapply (ld_slot c (rd_rb0 _)) $$ Hr; iintro Hr
  iapply (ld_whole c (View.set_whole _) (Memref.readAt_unit_zero (Elt F) cc0_scratch4 hz2 _ _)) $$ Hwb; iintro Hwb
  iapply (ld_whole c (View.set_whole _) rfl) $$ Hy; iintro Hy
  iapply (st_whole c (y1 m c) (View.set_whole _) (Memref.write_access_unit_zero_univ (Elt F) cc0_scratch5 hz2 _ _ _)) $$ Hy; iintro Hy
  iapply (copy_wait m K c 7 rfl (by decide)) $$ [Hf2 Ho]
  · isplitr; · iexact HR
    isplitl [Hf2]; · iexact Hf2
    iexact Ho
  iintro ⟨⟨Hws, HwR⟩, Hz2, Ho⟩
  iapply (ld_whole c (View.set_whole _) (Memref.readAt_unit_zero (Elt F) cc0_scratch3 hz2 _ _)) $$ Hws; iintro Hws
  iapply (ld_whole c (View.set_whole _) (Memref.readAt_unit_zero (Elt F) cc0_scratch4 hz2 _ _)) $$ Hwb; iintro Hwb
  rw [wp_ret]; imodintro
  iapply Hk
  isplitl [Hwb]; · iexists _; iexact Hwb
  isplitl [HwR]; · iexact HwR
  isplitl [Hws]; · iexists _; iexact Hws
  isplitl [Hz2]; · iexact Hz2
  isplitl [Ho]; · iexact Ho
  isplitl [Hz]; · iexact Hz
  isplitl [Hr]; · iexists _; iexact Hr
  iexact Hy

set_option maxHeartbeats 1000000 in
/-- The right neighbour's block arrives and is multiplied in; the opposite device's rows of `w` are staged. -/
theorem part8 (c : Dev nD) (v24 v35 : BitVec 32) (v196 : Vec F S1024x2048 .bf16) (Q : PUnit → sProp 𝕄) :
    iprop(recs m K ∗ anyAt c wbM ∗ pt c (wO c) qrr (win m c) ∗ anyAt c wsM ∗ sz c 2 ∗ crr c 6 ∗ Owe c 7 ∗ pos c 6 ∗ pt c yM fullShare (y1 m c))
      ⊢ iprop((pt c wbM fullShare (uO m c) ∗ pt c (wO c) qrr (win m c) ∗ anyAt c wsM ∗ sz c 2 ∗ Owe c 7 ∗ zero c 6 ∗ anyAt c rb1 ∗ pt c yM fullShare (y2 m c) -∗ Q ⟨⟩)
        -∗ wp frame (wpE defs Variants.none (c : Thread nD τ) none) Set.univ (k0_part8 xM (Memref.isWhole_whole _) wM (Memref.isWhole_whole _) oM (Memref.isWhole_whole _) xsM (Memref.isWhole_whole _) sbM (Memref.isWhole_whole _) rbM (Memref.isWhole_whole _) wsM (Memref.isWhole_whole _) wbM (Memref.isWhole_whole _) yM (Memref.isWhole_whole _) amM (Memref.isWhole_whole _) cc0_scratch7 cc0_scratch8 cc0_scratch9 cc0_scratch10 cc0_scratch11 cc0_scratch12 cc0_scratch13 c v24 v35 (k0_pay11 (vR m c)) v196) Q) := by
  rw [k0_part8_eq_skeleton]; unfold k0_part8_skel
  simp only [Prog.lift, Prog.bind_op, Prog.bind_ret, Prog.pure_eq_ret]
  iintro ⟨#HR, ⟨%f0, Hwb⟩, HwO, ⟨%f2, Hws⟩, Hz2, Hc, Ho, Hp, Hy⟩ Hk
  iapply (st_whole c (uR m c) (View.set_whole _) (Memref.write_access_unit_zero_univ (Elt F) cc0_scratch4 hz2 _ _ _)) $$ Hwb; iintro Hwb
  iapply (cp c EC (vO m c) (View.dmaCredit_pos _ (by decide)) (cp_ws _)) $$ [HwO Hws Hz2]
  · isplitl [HwO]; · iexact HwO
    isplitl [Hws]; · iexact Hws
    iexact Hz2
  iintro Hf2
  iapply (wait_step m K c 7 6 (dstw := rb1) (by decide) rfl rfl (by decide)) $$ [Hc Ho Hp]
  · isplitr; · iexact HR
    isplitl [Hc]; · iexact Hc
    isplitl [Ho]; · iexact Ho
    iexact Hp
  iintro ⟨Hr, Hz, Ho⟩
  ihave Hr := (got6 m c) $$ Hr
  iapply (ld_whole c (View.set_whole _) (Memref.readAt_unit_zero (Elt F) cc0_scratch5 hz2 _ _)) $$ Hy; iintro Hy
  iapply (ld_slot c (rd_rb1 _)) $$ Hr; iintro Hr
  iapply (ld_whole c (View.set_whole _) (Memref.readAt_unit_zero (Elt F) cc0_scratch4 hz2 _ _)) $$ Hwb; iintro Hwb
  iapply (ld_whole c (View.set_whole _) rfl) $$ Hy; iintro Hy
  iapply (st_whole c (y2 m c) (View.set_whole _) (Memref.write_access_unit_zero_univ (Elt F) cc0_scratch5 hz2 _ _ _)) $$ Hy; iintro Hy
  iapply (copy_wait m K c 7 rfl (by decide)) $$ [Hf2 Ho]
  · isplitr; · iexact HR
    isplitl [Hf2]; · iexact Hf2
    iexact Ho
  iintro ⟨⟨Hws, HwO⟩, Hz2, Ho⟩
  iapply (ld_whole c (View.set_whole _) (Memref.readAt_unit_zero (Elt F) cc0_scratch3 hz2 _ _)) $$ Hws; iintro Hws
  iapply (ld_whole c (View.set_whole _) rfl) $$ Hwb; iintro Hwb
  iapply (st_whole c (uO m c) (View.set_whole _) (Memref.write_access_unit_zero_univ (Elt F) cc0_scratch4 hz2 _ _ _)) $$ Hwb; iintro Hwb
  rw [wp_ret]; imodintro
  iapply Hk
  isplitl [Hwb]; · iexact Hwb
  isplitl [HwO]; · iexact HwO
  isplitl [Hws]; · iexists _; iexact Hws
  isplitl [Hz2]; · iexact Hz2
  isplitl [Ho]; · iexact Ho
  isplitl [Hz]; · iexact Hz
  isplitl [Hr]; · iexists _; iexact Hr
  iexact Hy

end Cert.KernelIdeal.Hand
-- ==== Proof.IdealParts3.lean ====
/-
# The body, part by part: the maxima and the result
-/
module

public import proofs.«01_k».proof.Proof.IdealParts2

@[expose] public section

noncomputable section

namespace Cert.KernelIdeal.Hand

open Cert.KernelIdeal Cert.KernelIdeal.Gen Cert.Steps

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × Fin 15 → ℕ)

variable {defs : Defs nD τ sig (Elt F) Λ₀}

/-! A quarter of the result reads alike in the running sum's buffer and in the result's. -/

theorem cp_o0 (c : Dev nD) : (oq0).view.read (Elt F) (out m c) = (yq0).view.read (Elt F) (out m c) := rfl
theorem cp_o1 (c : Dev nD) : (oq1).view.read (Elt F) (out m c) = (yq1).view.read (Elt F) (out m c) := rfl
theorem cp_o2 (c : Dev nD) : (oq2).view.read (Elt F) (out m c) = (yq2).view.read (Elt F) (out m c) := rfl
theorem cp_o3 (c : Dev nD) : (oq3).view.read (Elt F) (out m c) = (yq3).view.read (Elt F) (out m c) := rfl

set_option maxHeartbeats 1000000 in
/-- The first half of the opposite device's block arrives and completes the first half of the sum. -/
theorem part9 (c : Dev nD) (v35 : BitVec 32) (Q : F .f32 → sProp 𝕄) :
    iprop(recs m K ∗ crr c 7 ∗ Owe c 7 ∗ pos c 7 ∗ pt c yA fullShare (y2 m c) ∗ pt c wbM fullShare (uO m c))
      ⊢ iprop((zero c 7 ∗ Owe c 7 ∗ anyAt c rb2a ∗ pt c yA fullShare (y3 m c) ∗ pt c wbM fullShare (uO m c) -∗ Q (k0_pay16 (yTop m c)))
        -∗ wp frame (wpE defs Variants.none (c : Thread nD τ) none) Set.univ (k0_part9 xM (Memref.isWhole_whole _) wM (Memref.isWhole_whole _) oM (Memref.isWhole_whole _) xsM (Memref.isWhole_whole _) sbM (Memref.isWhole_whole _) rbM (Memref.isWhole_whole _) wsM (Memref.isWhole_whole _) wbM (Memref.isWhole_whole _) yM (Memref.isWhole_whole _) amM (Memref.isWhole_whole _) cc0_scratch7 cc0_scratch8 cc0_scratch9 cc0_scratch10 cc0_scratch11 cc0_scratch12 cc0_scratch13 v35) Q) := by
  rw [k0_part9_eq_skeleton]; unfold k0_part9_skel
  simp only [Prog.lift, Prog.bind_op, Prog.bind_ret, Prog.pure_eq_ret]
  iintro ⟨#HR, Hc, Ho, Hp, Hy, Hwb⟩ Hk
  iapply (wait_step m K c 7 7 (dstw := rb2a) (by decide) rfl rfl (by decide)) $$ [Hc Ho Hp]
  · isplitr; · iexact HR
    isplitl [Hc]; · iexact Hc
    isplitl [Ho]; · iexact Ho
    iexact Hp
  iintro ⟨Hr, Hz, Ho⟩
  ihave Hr := (got7 m c) $$ Hr
  iapply (ld_rect c (rd_yA _)) $$ Hy; iintro Hy
  iapply (ld_slot c (rd_rb2a _)) $$ Hr; iintro Hr
  iapply (ld_whole c (View.set_whole _) (Memref.readAt_unit_zero (Elt F) cc0_scratch4 hz2 _ _)) $$ Hwb; iintro Hwb
  iapply (ld_rect c rfl) $$ Hy; iintro Hy
  iapply (st_rect c (y3 m c) ((rd_yA _).trans (half_ofHalves_0 _ _))) $$ Hy; iintro Hy
  iapply (ld_rect c ((rd_yA (y3 m c)).trans (half_ofHalves_0 (yTop m c) (yBot m c)))) $$ Hy; iintro Hy
  rw [wp_ret]; imodintro
  iapply Hk
  isplitl [Hz]; · iexact Hz
  isplitl [Ho]; · iexact Ho
  isplitl [Hr]; · iexists _; iexact Hr
  isplitl [Hy]; · iexact Hy
  iexact Hwb

set_option maxHeartbeats 1000000 in
/-- The second half arrives and completes the second half of the sum; the block sent to the right has left. -/
theorem part10 (c : Dev nD)  (Q : F .f32 → sProp 𝕄) :
    iprop(recs m K ∗ crr c 8 ∗ Owe c 7 ∗ pos c 8 ∗ pt c yB fullShare (y2 m c) ∗ pt c wbM fullShare (uO m c) ∗ crr c 1 ∗ pos c 1)
      ⊢ iprop((zero c 8 ∗ Owe c 7 ∗ anyAt c rb2b ∗ pt c yB fullShare (y3 m c) ∗ anyAt c wbM ∗ zero c 1 ∗ anyAt c sb0 -∗ Q (k0_pay18 (yBot m c)))
        -∗ wp frame (wpE defs Variants.none (c : Thread nD τ) none) Set.univ (k0_part10 xM (Memref.isWhole_whole _) wM (Memref.isWhole_whole _) oM (Memref.isWhole_whole _) xsM (Memref.isWhole_whole _) sbM (Memref.isWhole_whole _) rbM (Memref.isWhole_whole _) wsM (Memref.isWhole_whole _) wbM (Memref.isWhole_whole _) yM (Memref.isWhole_whole _) amM (Memref.isWhole_whole _) cc0_scratch7 cc0_scratch8 cc0_scratch9 cc0_scratch10 cc0_scratch11 cc0_scratch12 cc0_scratch13) Q) := by
  rw [k0_part10_eq_skeleton]; unfold k0_part10_skel
  simp only [Prog.lift, Prog.bind_op, Prog.bind_ret, Prog.pure_eq_ret]
  iintro ⟨#HR, Hc, Ho, Hp, Hy, Hwb, Hc1, Hp1⟩ Hk
  iapply (wait_step m K c 7 8 (dstw := rb2b) (by decide) rfl rfl (by decide)) $$ [Hc Ho Hp]
  · isplitr; · iexact HR
    isplitl [Hc]; · iexact Hc
    isplitl [Ho]; · iexact Ho
    iexact Hp
  iintro ⟨Hr, Hz, Ho⟩
  ihave Hr := (got8 m c) $$ Hr
  iapply (ld_rect c (rd_yB _)) $$ Hy; iintro Hy
  iapply (ld_slot c (rd_rb2b _)) $$ Hr; iintro Hr
  iapply (ld_whole c (View.set_whole _) (Memref.readAt_unit_zero (Elt F) cc0_scratch4 hz2 _ _)) $$ Hwb; iintro Hwb
  iapply (ld_rect c rfl) $$ Hy; iintro Hy
  iapply (st_rect c (y3 m c) ((rd_yB _).trans (half_ofHalves_1 _ _))) $$ Hy; iintro Hy
  iapply (ld_rect c ((rd_yB (y3 m c)).trans (half_ofHalves_1 (yTop m c) (yBot m c)))) $$ Hy; iintro Hy
  iapply (wait_step m K c 7 1 (dstw := sb0) (by decide) rfl rfl (by decide)) $$ [Hc1 Ho Hp1]
  · isplitr; · iexact HR
    isplitl [Hc1]; · iexact Hc1
    isplitl [Ho]; · iexact Ho
    iexact Hp1
  iintro ⟨Hs, Hz1, Ho⟩
  ihave Hs := (got1 m c) $$ Hs
  rw [wp_ret]; imodintro
  iapply Hk
  isplitl [Hz]; · iexact Hz
  isplitl [Ho]; · iexact Ho
  isplitl [Hr]; · iexists _; iexact Hr
  isplitl [Hy]; · iexact Hy
  isplitl [Hwb]; · iexists _; iexact Hwb
  isplitl [Hz1]; · iexact Hz1
  iexists _
  iexact Hs

set_option maxHeartbeats 1000000 in
/-- The other blocks have left; the device's own maximum is written. -/
theorem part11 (c : Dev nD) (v13 : BitVec 32) (Q : (Σ' (v301 : BitVec 32), BitVec 32) → sProp 𝕄) :
    iprop(recs m K ∗ Owe c 7 ∗ crr c 2 ∗ pos c 2 ∗ crr c 3 ∗ pos c 3 ∗ crr c 4 ∗ pos c 4 ∗ anyAt c am3)
      ⊢ iprop((Owe c 7 ∗ zero c 2 ∗ anyAt c sb1 ∗ zero c 3 ∗ anyAt c sb2a ∗ zero c 4 ∗ anyAt c sb2b ∗ pt c am3 fullShare (amAll m c) -∗ Q ⟨Scalar.muli v13 1#32, 0#32⟩)
        -∗ wp frame (wpE defs Variants.none (c : Thread nD τ) none) Set.univ (k0_part11 xM (Memref.isWhole_whole _) wM (Memref.isWhole_whole _) oM (Memref.isWhole_whole _) xsM (Memref.isWhole_whole _) sbM (Memref.isWhole_whole _) rbM (Memref.isWhole_whole _) wsM (Memref.isWhole_whole _) wbM (Memref.isWhole_whole _) yM (Memref.isWhole_whole _) amM (Memref.isWhole_whole _) cc0_scratch7 cc0_scratch8 cc0_scratch9 cc0_scratch10 cc0_scratch11 cc0_scratch12 cc0_scratch13 v13 (k0_pay16 (yTop m c)) (k0_pay18 (yBot m c))) Q) := by
  rw [k0_part11_eq_skeleton]; unfold k0_part11_skel
  simp only [Prog.lift, Prog.bind_op, Prog.bind_ret, Prog.pure_eq_ret]
  iintro ⟨#HR, Ho, Hc2, Hp2, Hc3, Hp3, Hc4, Hp4, ⟨%f7, Ha⟩⟩ Hk
  iapply (wait_step m K c 7 2 (dstw := sb1) (by decide) rfl rfl (by decide)) $$ [Hc2 Ho Hp2]
  · isplitr; · iexact HR
    isplitl [Hc2]; · iexact Hc2
    isplitl [Ho]; · iexact Ho
    iexact Hp2
  iintro ⟨Hs2, Hz2, Ho⟩
  ihave Hs2 := (got2 m c) $$ Hs2
  iapply (wait_step m K c 7 3 (dstw := sb2a) (by decide) rfl rfl (by decide)) $$ [Hc3 Ho Hp3]
  · isplitr; · iexact HR
    isplitl [Hc3]; · iexact Hc3
    isplitl [Ho]; · iexact Ho
    iexact Hp3
  iintro ⟨Hs3, Hz3, Ho⟩
  ihave Hs3 := (got3 m c) $$ Hs3
  iapply (wait_step m K c 7 4 (dstw := sb2b) (by decide) rfl rfl (by decide)) $$ [Hc4 Ho Hp4]
  · isplitr; · iexact HR
    isplitl [Hc4]; · iexact Hc4
    isplitl [Ho]; · iexact Ho
    iexact Hp4
  iintro ⟨Hs4, Hz4, Ho⟩
  ihave Hs4 := (got4 m c) $$ Hs4
  iapply (ld_slot c rfl) $$ Ha; iintro Ha
  iapply (st_slot c (amAll m c) (rd_am3 m c)) $$ Ha; iintro Ha
  rw [wp_ret]; imodintro
  iapply Hk
  isplitl [Ho]; · iexact Ho
  isplitl [Hz2]; · iexact Hz2
  isplitl [Hs2]; · iexists _; iexact Hs2
  isplitl [Hz3]; · iexact Hz3
  isplitl [Hs3]; · iexists _; iexact Hs3
  isplitl [Hz4]; · iexact Hz4
  isplitl [Hs4]; · iexists _; iexact Hs4
  iexact Ha

set_option maxHeartbeats 1000000 in
/-- The device's own maximum leaves for the three others. -/
theorem part12 (c : Dev nD) (v24 v35 v301 v0 : BitVec 32) (Q : PUnit → sProp 𝕄) :
    iprop(recs m K ∗ pt c am3 fullShare (amAll m c) ∗ anyAt (rt c) am0 ∗ anyAt (lf c) am1 ∗ anyAt (op c) am2 ∗ Owe c 7 ∗ tok c 9 0 ∗ tok (rt c) 12 0 ∗ tok c 10 0 ∗ tok (lf c) 13 0 ∗ tok c 11 0 ∗ tok (op c) 14 0)
      ⊢ iprop((Owe c 10 ∗ crr c 9 ∗ crr c 10 ∗ crr c 11 -∗ Q ⟨⟩)
        -∗ wp frame (wpE defs Variants.none (c : Thread nD τ) none) Set.univ (k0_part12 xM (Memref.isWhole_whole _) wM (Memref.isWhole_whole _) oM (Memref.isWhole_whole _) xsM (Memref.isWhole_whole _) sbM (Memref.isWhole_whole _) rbM (Memref.isWhole_whole _) wsM (Memref.isWhole_whole _) wbM (Memref.isWhole_whole _) yM (Memref.isWhole_whole _) amM (Memref.isWhole_whole _) cc0_scratch7 cc0_scratch8 cc0_scratch9 cc0_scratch10 cc0_scratch11 cc0_scratch12 cc0_scratch13 c v24 v35 v301 v0) Q) := by
  rw [k0_part12_eq_skeleton]; unfold k0_part12_skel
  simp only [Prog.lift, Prog.bind_op, Prog.bind_ret, Prog.pure_eq_ret]
  iintro ⟨#HR, Ha, H0, H1, H2, Ho, S0, R0, S1, R1, S2, R2⟩ Hk
  ihave Ha := ((am3_shares c (amAll m c)).1) $$ Ha
  icases Ha with ⟨Ha, Hb, Hc⟩
  iapply (send_step m K c (rt c) _ 7 (dev8_eq c) 9 12 (dst := am0) (by decide) (by decide) rfl rfl rfl rfl rfl (amAll m (rt c)) (send_am0 m c) (Entails.of_eq rfl)
    (Entails.of_eq (by rw [dev8_eq c]; show _ = pt (rt c) am0 fullShare (amAll m (rt c)); rfl))) $$ [Ha H0 Ho S0 R0]
  · isplitr; · iexact HR
    isplitl [Ha]; · iexact Ha
    isplitl [H0]; · rw [dev8_eq c]; iexact H0
    isplitl [Ho]; · iexact Ho
    isplitl [S0]; · iexact S0
    iexact R0
  iintro ⟨C0, Ho⟩
  iapply (send_step m K c (lf c) _ 8 (dev9_eq c) 10 13 (dst := am1) (by decide) (by decide) rfl rfl rfl rfl rfl (amAll m (lf c)) (send_am1 m c) (Entails.of_eq rfl)
    (Entails.of_eq (by rw [dev9_eq c]; show _ = pt (lf c) am1 fullShare (amAll m (lf c)); rfl))) $$ [Hb H1 Ho S1 R1]
  · isplitr; · iexact HR
    isplitl [Hb]; · iexact Hb
    isplitl [H1]; · rw [dev9_eq c]; iexact H1
    isplitl [Ho]; · iexact Ho
    isplitl [S1]; · iexact S1
    iexact R1
  iintro ⟨C1, Ho⟩
  iapply (send_step m K c (op c) _ 9 (dev10_eq c) 11 14 (dst := am2) (by decide) (by decide) rfl rfl rfl rfl rfl (amAll m (op c)) (send_am2 m c) (Entails.of_eq rfl)
    (Entails.of_eq (by rw [dev10_eq c]; show _ = pt (op c) am2 fullShare (amAll m (op c)); rfl))) $$ [Hc H2 Ho S2 R2]
  · isplitr; · iexact HR
    isplitl [Hc]; · iexact Hc
    isplitl [H2]; · rw [dev10_eq c]; iexact H2
    isplitl [Ho]; · iexact Ho
    isplitl [S2]; · iexact S2
    iexact R2
  iintro ⟨C2, Ho⟩
  rw [wp_ret]; imodintro
  iapply Hk
  isplitl [Ho]; · iexact Ho
  isplitl [C0]; · iexact C0
  isplitl [C1]; · iexact C1
  iexact C2

set_option maxHeartbeats 1000000 in
/-- The maxima of the three others arrive. -/
theorem part13 (c : Dev nD) (v13 v24 v35 : BitVec 32) (Q : PUnit → sProp 𝕄) :
    iprop(recs m K ∗ Owe c 10 ∗ crr c 12 ∗ pos c 12 ∗ crr c 13 ∗ pos c 13 ∗ crr c 14 ∗ pos c 14)
      ⊢ iprop((Owe c 10 ∗ zero c 12 ∗ pt c am0 fullShare (amAll m c) ∗ zero c 13 ∗ pt c am1 fullShare (amAll m c) ∗ zero c 14 ∗ pt c am2 fullShare (amAll m c) -∗ Q ⟨⟩)
        -∗ wp frame (wpE defs Variants.none (c : Thread nD τ) none) Set.univ (k0_part13 xM (Memref.isWhole_whole _) wM (Memref.isWhole_whole _) oM (Memref.isWhole_whole _) xsM (Memref.isWhole_whole _) sbM (Memref.isWhole_whole _) rbM (Memref.isWhole_whole _) wsM (Memref.isWhole_whole _) wbM (Memref.isWhole_whole _) yM (Memref.isWhole_whole _) amM (Memref.isWhole_whole _) cc0_scratch7 cc0_scratch8 cc0_scratch9 cc0_scratch10 cc0_scratch11 cc0_scratch12 cc0_scratch13 v13 v24 v35) Q) := by
  rw [k0_part13_eq_skeleton]; unfold k0_part13_skel
  simp only [Prog.lift, Prog.bind_op, Prog.bind_ret, Prog.pure_eq_ret]
  iintro ⟨#HR, Ho, C0, P0, C1, P1, C2, P2⟩ Hk
  iapply (wait_step m K c 10 12 (dstw := am0) (by decide) rfl rfl (by decide)) $$ [C0 Ho P0]
  · isplitr; · iexact HR
    isplitl [C0]; · iexact C0
    isplitl [Ho]; · iexact Ho
    iexact P0
  iintro ⟨A0, Z0, Ho⟩
  ihave A0 := (got12 m c) $$ A0
  iapply (wait_step m K c 10 13 (dstw := am1) (by decide) rfl rfl (by decide)) $$ [C1 Ho P1]
  · isplitr; · iexact HR
    isplitl [C1]; · iexact C1
    isplitl [Ho]; · iexact Ho
    iexact P1
  iintro ⟨A1, Z1, Ho⟩
  ihave A1 := (got13 m c) $$ A1
  iapply (wait_step m K c 10 14 (dstw := am2) (by decide) rfl rfl (by decide)) $$ [C2 Ho P2]
  · isplitr; · iexact HR
    isplitl [C2]; · iexact C2
    isplitl [Ho]; · iexact Ho
    iexact P2
  iintro ⟨A2, Z2, Ho⟩
  ihave A2 := (got14 m c) $$ A2
  rw [wp_ret]; imodintro
  iapply Hk
  isplitl [Ho]; · iexact Ho
  isplitl [Z0]; · iexact Z0
  isplitl [A0]; · iexact A0
  isplitl [Z1]; · iexact Z1
  isplitl [A1]; · iexact A1
  isplitl [Z2]; · iexact Z2
  iexact A2

set_option maxHeartbeats 1000000 in
/-- The device's own maximum has left; the maximum over all devices is read, and the first quarter of the sum. -/
theorem part14 (c : Dev nD)  (Q : (Σ' (v378 : F .f32) (v379 : F .f32), FVec F S256x2048 .f32) → sProp 𝕄) :
    iprop(recs m K ∗ Owe c 10 ∗ crr c 9 ∗ pos c 9 ∗ crr c 10 ∗ pos c 10 ∗ crr c 11 ∗ pos c 11 ∗ pt c am0 fullShare (amAll m c) ∗ pt c am1 fullShare (amAll m c) ∗ pt c am2 fullShare (amAll m c) ∗ pt c yq0 fullShare (y3 m c))
      ⊢ iprop((Owe c 10 ∗ zero c 9 ∗ zero c 10 ∗ zero c 11 ∗ anyAt c amM ∗ pt c yq0 fullShare (y3 m c) -∗ Q ⟨k0_pay21 (amAll m c), k0_pay22 (amAll m c), k0_pay23 (quart 0 (y3 m c))⟩)
        -∗ wp frame (wpE defs Variants.none (c : Thread nD τ) none) Set.univ (k0_part14 xM (Memref.isWhole_whole _) wM (Memref.isWhole_whole _) oM (Memref.isWhole_whole _) xsM (Memref.isWhole_whole _) sbM (Memref.isWhole_whole _) rbM (Memref.isWhole_whole _) wsM (Memref.isWhole_whole _) wbM (Memref.isWhole_whole _) yM (Memref.isWhole_whole _) amM (Memref.isWhole_whole _) cc0_scratch7 cc0_scratch8 cc0_scratch9 cc0_scratch10 cc0_scratch11 cc0_scratch12 cc0_scratch13) Q) := by
  rw [k0_part14_eq_skeleton]; unfold k0_part14_skel
  simp only [Prog.lift, Prog.bind_op, Prog.bind_ret, Prog.pure_eq_ret]
  iintro ⟨#HR, Ho, C0, P0, C1, P1, C2, P2, A0, A1, A2, Hy⟩ Hk
  iapply (wait_step m K c 10 9 (dstw := am3) (by decide) rfl rfl (by decide)) $$ [C0 Ho P0]
  · isplitr; · iexact HR
    isplitl [C0]; · iexact C0
    isplitl [Ho]; · iexact Ho
    iexact P0
  iintro ⟨B0, Z0, Ho⟩
  ihave B0 := (got9 m c) $$ B0
  iapply (wait_step m K c 10 10 (dstw := am3) (by decide) rfl rfl (by decide)) $$ [C1 Ho P1]
  · isplitr; · iexact HR
    isplitl [C1]; · iexact C1
    isplitl [Ho]; · iexact Ho
    iexact P1
  iintro ⟨B1, Z1, Ho⟩
  ihave B1 := (got10 m c) $$ B1
  iapply (wait_step m K c 10 11 (dstw := am3) (by decide) rfl rfl (by decide)) $$ [C2 Ho P2]
  · isplitr; · iexact HR
    isplitl [C2]; · iexact C2
    isplitl [Ho]; · iexact Ho
    iexact P2
  iintro ⟨B2, Z2, Ho⟩
  ihave B2 := (got11 m c) $$ B2
  ihave A3 := (am3_shares c (amAll m c)).2 $$ [B0 B1 B2]
  · isplitl [B0]; · iexact B0
    isplitl [B1]; · iexact B1
    iexact B2
  ihave Ha := (am_all c (amAll m c)).2 $$ [A0 A1 A2 A3]
  · isplitl [A0]; · iexact A0
    isplitl [A1]; · iexact A1
    isplitl [A2]; · iexact A2
    iexact A3
  iapply (ld_whole c (View.set_whole _) (Memref.readAt_unit_zero (Elt F) cc0_scratch6 hz3 _ _)) $$ Ha; iintro Ha
  iapply (ld_rect c (rd_q0 _)) $$ Hy; iintro Hy
  rw [wp_ret]; imodintro
  iapply Hk
  isplitl [Ho]; · iexact Ho
  isplitl [Z0]; · iexact Z0
  isplitl [Z1]; · iexact Z1
  isplitl [Z2]; · iexact Z2
  isplitl [Ha]; · iexists _; iexact Ha
  iexact Hy

set_option maxHeartbeats 1000000 in
/-- The first two quarters of the result are written and leave. -/
theorem part15 (c : Dev nD)  (Q : (Σ' (v416 : Vec F S256x2048 .f32), F .f32) → sProp 𝕄) :
    iprop(recs m K ∗ pt c yq0 fullShare (y3 m c) ∗ pt c yq1 fullShare (y3 m c) ∗ pt c yq2 fullShare (y3 m c) ∗ anyAt c oq0 ∗ anyAt c oq1 ∗ sz c 3 ∗ sz c 4)
      ⊢ iprop((fly c 3 crQ iprop(pt c oq0 fullShare (out m c) ∗ pt c yq0 fullShare (out m c)) ∗ fly c 4 crQ iprop(pt c oq1 fullShare (out m c) ∗ pt c yq1 fullShare (out m c)) ∗ pt c yq2 fullShare (y3 m c) -∗ Q ⟨quart 2 (y3 m c), Scalar.ofBits .f32 0x00000000#32⟩)
        -∗ wp frame (wpE defs Variants.none (c : Thread nD τ) none) Set.univ (k0_part15 xM (Memref.isWhole_whole _) wM (Memref.isWhole_whole _) oM (Memref.isWhole_whole _) xsM (Memref.isWhole_whole _) sbM (Memref.isWhole_whole _) rbM (Memref.isWhole_whole _) wsM (Memref.isWhole_whole _) wbM (Memref.isWhole_whole _) yM (Memref.isWhole_whole _) amM (Memref.isWhole_whole _) cc0_scratch7 cc0_scratch8 cc0_scratch9 cc0_scratch10 cc0_scratch11 cc0_scratch12 cc0_scratch13 (k0_pay21 (amAll m c)) (k0_pay22 (amAll m c)) (k0_pay23 (quart 0 (y3 m c)))) Q) := by
  rw [k0_part15_eq_skeleton]; unfold k0_part15_skel
  simp only [Prog.lift, Prog.bind_op, Prog.bind_ret, Prog.pure_eq_ret]
  iintro ⟨#HR, Y0, Y1, Y2, ⟨%f3, O0⟩, ⟨%f4, O1⟩, Z0, Z1⟩ Hk
  iapply (ld_rect c rfl) $$ Y0; iintro Y0
  iapply (st_rect c (out m c) ((rd_q0 _).trans (quart_ofQuarts (outQ m c) 0))) $$ Y0; iintro Y0
  iapply (cp c EC (out m c) (View.dmaCredit_pos _ (by decide)) (cp_o0 m c)) $$ [Y0 O0 Z0]
  · isplitl [Y0]; · iexact Y0
    isplitl [O0]; · iexact O0
    iexact Z0
  iintro L0
  iapply (ld_rect c (rd_q1 _)) $$ Y1; iintro Y1
  iapply (ld_rect c rfl) $$ Y1; iintro Y1
  iapply (st_rect c (out m c) ((rd_q1 _).trans (quart_ofQuarts (outQ m c) 1))) $$ Y1; iintro Y1
  iapply (cp c EC (out m c) (View.dmaCredit_pos _ (by decide)) (cp_o1 m c)) $$ [Y1 O1 Z1]
  · isplitl [Y1]; · iexact Y1
    isplitl [O1]; · iexact O1
    iexact Z1
  iintro L1
  iapply (ld_rect c (rd_q2 _)) $$ Y2; iintro Y2
  rw [wp_ret]; imodintro
  iapply Hk
  isplitl [L0]; · iexact L0
  isplitl [L1]; · iexact L1
  iexact Y2

set_option maxHeartbeats 1000000 in
/-- The last two quarters of the result are written and leave. -/
theorem part16 (c : Dev nD)  (Q : PUnit → sProp 𝕄) :
    iprop(recs m K ∗ pt c yq2 fullShare (y3 m c) ∗ pt c yq3 fullShare (y3 m c) ∗ anyAt c oq2 ∗ anyAt c oq3 ∗ sz c 5 ∗ sz c 6)
      ⊢ iprop((fly c 5 crQ iprop(pt c oq2 fullShare (out m c) ∗ pt c yq2 fullShare (out m c)) ∗ fly c 6 crQ iprop(pt c oq3 fullShare (out m c) ∗ pt c yq3 fullShare (out m c)) -∗ Q ⟨⟩)
        -∗ wp frame (wpE defs Variants.none (c : Thread nD τ) none) Set.univ (k0_part16 xM (Memref.isWhole_whole _) wM (Memref.isWhole_whole _) oM (Memref.isWhole_whole _) xsM (Memref.isWhole_whole _) sbM (Memref.isWhole_whole _) rbM (Memref.isWhole_whole _) wsM (Memref.isWhole_whole _) wbM (Memref.isWhole_whole _) yM (Memref.isWhole_whole _) amM (Memref.isWhole_whole _) cc0_scratch7 cc0_scratch8 cc0_scratch9 cc0_scratch10 cc0_scratch11 cc0_scratch12 cc0_scratch13 (k0_pay21 (amAll m c)) (k0_pay22 (amAll m c)) (quart 2 (y3 m c)) (Scalar.ofBits .f32 0x00000000#32)) Q) := by
  rw [k0_part16_eq_skeleton]; unfold k0_part16_skel
  simp only [Prog.lift, Prog.bind_op, Prog.bind_ret, Prog.pure_eq_ret]
  iintro ⟨#HR, Y2, Y3, ⟨%f2, O2⟩, ⟨%f3, O3⟩, Z2, Z3⟩ Hk
  iapply (ld_rect c rfl) $$ Y2; iintro Y2
  iapply (st_rect c (out m c) ((rd_q2 _).trans (quart_ofQuarts (outQ m c) 2))) $$ Y2; iintro Y2
  iapply (cp c EC (out m c) (View.dmaCredit_pos _ (by decide)) (cp_o2 m c)) $$ [Y2 O2 Z2]
  · isplitl [Y2]; · iexact Y2
    isplitl [O2]; · iexact O2
    iexact Z2
  iintro L2
  iapply (ld_rect c (rd_q3 _)) $$ Y3; iintro Y3
  iapply (ld_rect c rfl) $$ Y3; iintro Y3
  iapply (st_rect c (out m c) ((rd_q3 _).trans (quart_ofQuarts (outQ m c) 3))) $$ Y3; iintro Y3
  iapply (cp c EC (out m c) (View.dmaCredit_pos _ (by decide)) (cp_o3 m c)) $$ [Y3 O3 Z3]
  · isplitl [Y3]; · iexact Y3
    isplitl [O3]; · iexact O3
    iexact Z3
  iintro L3
  rw [wp_ret]; imodintro
  iapply Hk
  isplitl [L2]; · iexact L2
  iexact L3

end Cert.KernelIdeal.Hand
-- ==== Proof.IdealBody.lean ====
/-
# The body from its first statement to its last
-/
module

public import proofs.«01_k».proof.Proof.IdealParts3

@[expose] public section

noncomputable section

namespace Cert.KernelIdeal.Hand

open Cert.KernelIdeal Cert.KernelIdeal.Gen Cert.Steps

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × Fin 15 → ℕ)

variable {defs : Defs nD τ sig (Elt F) Λ₀}

/-- A device's positions at its cells. -/
def posns (c : Dev nD) : sProp 𝕄 := iprop(pos c 0 ∗ pos c 1 ∗ pos c 2 ∗ pos c 3 ∗ pos c 4 ∗ pos c 5 ∗ pos c 6 ∗ pos c 7 ∗ pos c 8 ∗ pos c 9 ∗ pos c 10 ∗ pos c 11 ∗ pos c 12 ∗ pos c 13 ∗ pos c 14)
/-- The duties a device pays. -/
def payToks (c : Dev nD) : sProp 𝕄 := iprop(tok (lf c) 0 0 ∗ tok (rt c) 0 1 ∗ tok (op c) 0 2 ∗ tok c 1 0 ∗ tok (rt c) 5 0 ∗ tok c 2 0 ∗ tok (lf c) 6 0 ∗ tok c 3 0 ∗ tok (op c) 7 0 ∗ tok c 4 0 ∗ tok (op c) 8 0 ∗ tok c 9 0 ∗ tok (rt c) 12 0 ∗ tok c 10 0 ∗ tok (lf c) 13 0 ∗ tok c 11 0 ∗ tok (op c) 14 0)
/-- The credits a device is launched with. -/
def creds0 (c : Dev nD) : sProp 𝕄 := iprop(crd c 0 3 ∗ crr c 5 ∗ crr c 6 ∗ crr c 7 ∗ crr c 8 ∗ crr c 12 ∗ crr c 13 ∗ crr c 14)
/-- The operands and the result's array, before and after. -/
def arrs0 (c : Dev nD) : sProp 𝕄 := iprop(pt c xM fullShare (xin m c) ∗ pt c wM fullShare (win m c) ∗ anyAt c oM)
def arrs1 (c : Dev nD) : sProp 𝕄 := iprop(pt c xM fullShare (xin m c) ∗ pt c wM fullShare (win m c) ∗ pt c oM fullShare (out m c))
/-- The counters of the cells, and of the semaphores of local copies, at zero. -/
def zeros (c : Dev nD) : sProp 𝕄 := iprop(zero c 0 ∗ zero c 1 ∗ zero c 2 ∗ zero c 3 ∗ zero c 4 ∗ zero c 5 ∗ zero c 6 ∗ zero c 7 ∗ zero c 8 ∗ zero c 9 ∗ zero c 10 ∗ zero c 11 ∗ zero c 12 ∗ zero c 13 ∗ zero c 14)
def szs (c : Dev nD) : sProp 𝕄 := iprop(sz c 0 ∗ sz c 1 ∗ sz c 2 ∗ sz c 3 ∗ sz c 4 ∗ sz c 5 ∗ sz c 6)
/-- The scratch buffers. -/
def scr (c : Dev nD) : sProp 𝕄 := iprop(anyAt c xsM ∗ anyAt c sbM ∗ anyAt c rbM ∗ anyAt c wsM ∗ anyAt c wbM ∗ anyAt c yM ∗ anyAt c amM)

theorem o_cut (c : Dev nD) : anyAt c oM ⊢ (iprop(anyAt c oq0 ∗ anyAt c oq1 ∗ anyAt c oq2 ∗ anyAt c oq3) : sProp 𝕄) := by
  iintro ⟨%f, H⟩
  ihave H := (o_all c f).1 $$ H
  icases H with ⟨H0, H1, H2, H3⟩
  isplitl [H0]; · iexists f; iexact H0
  isplitl [H1]; · iexists f; iexact H1
  isplitl [H2]; · iexists f; iexact H2
  iexists f; iexact H3

/-- The device's number and its neighbours' words. -/
theorem part1 (c : Dev nD) (Q : (Σ' (d0 : Dev nD) (v2 : BitVec 32) (v13 : BitVec 32) (v24 : BitVec 32), BitVec 32) → sProp 𝕄) :
    iprop(∀ v2 v13 v24 v35, Q ⟨c, v2, v13, v24, v35⟩) ⊢ wp frame (wpE defs Variants.none (c : Thread nD τ) none) Set.univ (k0_part1 xM (Memref.isWhole_whole _) wM (Memref.isWhole_whole _) oM (Memref.isWhole_whole _) xsM (Memref.isWhole_whole _) sbM (Memref.isWhole_whole _) rbM (Memref.isWhole_whole _) wsM (Memref.isWhole_whole _) wbM (Memref.isWhole_whole _) yM (Memref.isWhole_whole _) amM (Memref.isWhole_whole _) cc0_scratch7 cc0_scratch8 cc0_scratch9 cc0_scratch10 cc0_scratch11 cc0_scratch12 cc0_scratch13) Q := by
  rw [k0_part1_eq_skeleton]; unfold k0_part1_skel
  simp only [Prog.lift, Prog.bind_op, Prog.bind_ret, Prog.pure_eq_ret]
  rw [wp_deviceId, wp_ret]
  iintro H
  imodintro
  iapply H

set_option maxHeartbeats 4000000 in
/-- The whole body: every duty paid, every cell closed, the result written, the operands as they were. -/
theorem body (c : Dev nD) (Q : PUnit → sProp 𝕄) :
    iprop(recs m K ∗ posns c ∗ payToks c ∗ creds0 c ∗ arrs0 m c ∗ szs c ∗ scr c ∗ Owe c 0)
      ⊢ iprop((arrs1 m c ∗ zeros c ∗ szs c ∗ scr c ∗ Owe c 10 -∗ Q ⟨⟩) -∗ wp frame (wpE defs Variants.none (c : Thread nD τ) none) Set.univ (cc0_body xM (Memref.isWhole_whole _) wM (Memref.isWhole_whole _) oM (Memref.isWhole_whole _) xsM (Memref.isWhole_whole _) sbM (Memref.isWhole_whole _) rbM (Memref.isWhole_whole _) wsM (Memref.isWhole_whole _) wbM (Memref.isWhole_whole _) yM (Memref.isWhole_whole _) amM (Memref.isWhole_whole _) cc0_scratch7 cc0_scratch8 cc0_scratch9 cc0_scratch10 cc0_scratch11 cc0_scratch12 cc0_scratch13) Q) := by
  rw [cc0_body_eq_skeleton]; unfold cc0_body_skel
  unfold posns payToks creds0 arrs0 arrs1 zeros szs scr
  iintro ⟨#HR, ⟨P0, P1, P2, P3, P4, P5, P6, P7, P8, P9, P10, P11, P12, P13, P14⟩, ⟨T0, T1, T2, T3, T4, T5, T6, T7, T8, T9, T10, T11, T12, T13, T14, T15, T16⟩, ⟨C0, C5, C6, C7, C8, C12, C13, C14⟩, ⟨Hx, Hw, Ho2⟩, ⟨S0, S1, S2, S3, S4, S5, S6⟩, ⟨Gxs, Gsb, Grb, Gws, Gwb, Gy, Gam⟩, Ho⟩ Hk
  ihave Gxs := (xs_cut c) $$ Gxs
  icases Gxs with ⟨X0, X1, Xr⟩
  ihave Gsb := (sb_cut c) $$ Gsb
  icases Gsb with ⟨B0, B1, B2, B3, Br⟩
  ihave Grb := (rb_cut c) $$ Grb
  icases Grb with ⟨R0, R1, R2, R3, Rr⟩
  ihave Gam := (am_cut c) $$ Gam
  icases Gam with ⟨A0, A1, A2, A3⟩
  ihave Ho2 := (o_cut c) $$ Ho2
  icases Ho2 with ⟨O0, O1, O2, O3⟩
  ihave Hx := (x_lend m c) $$ Hx
  icases Hx with ⟨⟨XR, XL, XO, XC⟩, Xback⟩
  ihave Hw := (w_lend m c) $$ Hw
  icases Hw with ⟨⟨WC, WL, WR, WO⟩, Wback⟩
  rw [wp_bind]
  iapply (part1 c)
  iintro %v2 %v13 %v24 %v35
  dsimp only
  rw [wp_bind]
  iapply (part2 m K c v13 v24 v35) $$ [T0 T1 T2 R0 R1 R2 R3 A0 A1 A2 C0 P0 Ho XR XL X0 X1 S0 S1]
  · isplitr; · iexact HR
    isplitl [T0 T1 T2]
    · isplitl [T0]; · iexact T0
      isplitl [T1]; · iexact T1
      iexact T2
    isplitl [R0 R1 R2 R3]
    · isplitl [R0]; · iexact R0
      isplitl [R1]; · iexact R1
      isplitl [R2]; · iexact R2
      iexact R3
    isplitl [A0 A1 A2]
    · isplitl [A0]; · iexact A0
      isplitl [A1]; · iexact A1
      iexact A2
    isplitl [C0]; · iexact C0
    isplitl [P0]; · iexact P0
    isplitl [Ho]; · iexact Ho
    isplitl [XR]; · iexact XR
    isplitl [XL]; · iexact XL
    isplitl [X0]; · iexact X0
    isplitl [X1]; · iexact X1
    isplitl [S0]; · iexact S0
    iexact S1
  iintro ⟨⟨R0, R1, R2, R3⟩, ⟨A0, A1, A2⟩, Z0, Ho, XR, X0, S0, F1⟩
  rw [wp_bind]
  iapply (part3 m K c v13 v35) $$ [X0 B0 R0 Ho T3 T4 XO S0 F1]
  · isplitr; · iexact HR
    isplitl [X0]; · iexact X0
    isplitl [B0]; · iexact B0
    isplitl [R0]; · iexact R0
    isplitl [Ho]; · iexact Ho
    isplitl [T3]; · iexact T3
    isplitl [T4]; · iexact T4
    isplitl [XO]; · iexact XO
    isplitl [S0]; · iexact S0
    iexact F1
  iintro ⟨K1, Ho, F0, X1, XL, S1⟩
  rw [wp_bind]
  iapply (part4 m K c v2 v24) $$ [X1 B1 R1 Ho T5 T6 XC S1 F0]
  · isplitr; · iexact HR
    isplitl [X1]; · iexact X1
    isplitl [B1]; · iexact B1
    isplitl [R1]; · iexact R1
    isplitl [Ho]; · iexact Ho
    isplitl [T5]; · iexact T5
    isplitl [T6]; · iexact T6
    isplitl [XC]; · iexact XC
    isplitl [S1]; · iexact S1
    iexact F0
  iintro ⟨K2, Ho, F1, X0, XO, S0⟩
  rw [wp_bind]
  iapply (part5 m K c v35) $$ [B2 R2 R3 Ho T7 T8 T9 T10]
  · isplitr; · iexact HR
    isplitl [B2]; · iexact B2
    isplitl [R2]; · iexact R2
    isplitl [R3]; · iexact R3
    isplitl [Ho]; · iexact Ho
    isplitl [T7]; · iexact T7
    isplitl [T8]; · iexact T8
    isplitl [T9]; · iexact T9
    iexact T10
  iintro ⟨K3, K4, Ho, Brest⟩
  rw [wp_bind]
  iapply (part6 m K c v2 v24) $$ [F1 B3 Ho S2 WC WL Gws Gwb Gy]
  · isplitr; · iexact HR
    isplitl [F1]; · iexact F1
    isplitl [B3]; · iexact B3
    isplitl [Ho]; · iexact Ho
    isplitl [S2]; · iexact S2
    isplitl [WC]; · iexact WC
    isplitl [WL]; · iexact WL
    isplitl [Gws]; · iexact Gws
    isplitl [Gwb]; · iexact Gwb
    iexact Gy
  iintro ⟨X1, XC, S1, B3, Ho, S2, WC, WL, Gws, Gwb, Gy⟩
  rw [wp_bind]
  iapply (part7 m K c v13) $$ [Gwb WR Gws S2 C5 Ho P5 Gy]
  · isplitr; · iexact HR
    isplitl [Gwb]; · iexact Gwb
    isplitl [WR]; · iexact WR
    isplitl [Gws]; · iexact Gws
    isplitl [S2]; · iexact S2
    isplitl [C5]; · iexact C5
    isplitl [Ho]; · iexact Ho
    isplitl [P5]; · iexact P5
    iexact Gy
  iintro ⟨Gwb, WR, Gws, S2, Ho, Z5, R0, Gy⟩
  dsimp only
  rw [wp_bind]
  iapply (part8 m K c v24 v35 _) $$ [Gwb WO Gws S2 C6 Ho P6 Gy]
  · isplitr; · iexact HR
    isplitl [Gwb]; · iexact Gwb
    isplitl [WO]; · iexact WO
    isplitl [Gws]; · iexact Gws
    isplitl [S2]; · iexact S2
    isplitl [C6]; · iexact C6
    isplitl [Ho]; · iexact Ho
    isplitl [P6]; · iexact P6
    iexact Gy
  iintro ⟨Gwb, WO, Gws, S2, Ho, Z6, R1, Gy⟩
  ihave Gy := (y_cut c (y2 m c)) $$ Gy
  icases Gy with ⟨YA, YB, Yr⟩
  rw [wp_bind]
  iapply (part9 m K c v35) $$ [C7 Ho P7 YA Gwb]
  · isplitr; · iexact HR
    isplitl [C7]; · iexact C7
    isplitl [Ho]; · iexact Ho
    isplitl [P7]; · iexact P7
    isplitl [YA]; · iexact YA
    iexact Gwb
  iintro ⟨Z7, Ho, R2, YA, Gwb⟩
  rw [wp_bind]
  iapply (part10 m K c) $$ [C8 Ho P8 YB Gwb K1 P1]
  · isplitr; · iexact HR
    isplitl [C8]; · iexact C8
    isplitl [Ho]; · iexact Ho
    isplitl [P8]; · iexact P8
    isplitl [YB]; · iexact YB
    isplitl [Gwb]; · iexact Gwb
    isplitl [K1]; · iexact K1
    iexact P1
  iintro ⟨Z8, Ho, R3, YB, Gwb, Z1, B0⟩
  rw [wp_bind]
  iapply (part11 m K c v13) $$ [Ho K2 P2 K3 P3 K4 P4 A3]
  · isplitr; · iexact HR
    isplitl [Ho]; · iexact Ho
    isplitl [K2]; · iexact K2
    isplitl [P2]; · iexact P2
    isplitl [K3]; · iexact K3
    isplitl [P3]; · iexact P3
    isplitl [K4]; · iexact K4
    isplitl [P4]; · iexact P4
    iexact A3
  iintro ⟨Ho, Z2, B1, Z3, Ba, Z4, Bb, A3⟩
  dsimp only
  rw [wp_bind]
  iapply (part12 m K c v24 v35 _ _) $$ [A3 A0 A1 A2 Ho T11 T12 T13 T14 T15 T16]
  · isplitr; · iexact HR
    isplitl [A3]; · iexact A3
    isplitl [A0]; · iexact A0
    isplitl [A1]; · iexact A1
    isplitl [A2]; · iexact A2
    isplitl [Ho]; · iexact Ho
    isplitl [T11]; · iexact T11
    isplitl [T12]; · iexact T12
    isplitl [T13]; · iexact T13
    isplitl [T14]; · iexact T14
    isplitl [T15]; · iexact T15
    iexact T16
  iintro ⟨Ho, K9, K10, K11⟩
  rw [wp_bind]
  iapply (part13 m K c v13 v24 v35) $$ [Ho C12 P12 C13 P13 C14 P14]
  · isplitr; · iexact HR
    isplitl [Ho]; · iexact Ho
    isplitl [C12]; · iexact C12
    isplitl [P12]; · iexact P12
    isplitl [C13]; · iexact C13
    isplitl [P13]; · iexact P13
    isplitl [C14]; · iexact C14
    iexact P14
  iintro ⟨Ho, Z12, A0, Z13, A1, Z14, A2⟩
  ihave YA := (yA_cut c (y3 m c)) $$ YA
  icases YA with ⟨Y0, Y1, Yra⟩
  ihave YB := (yB_cut c (y3 m c)) $$ YB
  icases YB with ⟨Y2, Y3, Yrb⟩
  rw [wp_bind]
  iapply (part14 m K c) $$ [Ho K9 P9 K10 P10 K11 P11 A0 A1 A2 Y0]
  · isplitr; · iexact HR
    isplitl [Ho]; · iexact Ho
    isplitl [K9]; · iexact K9
    isplitl [P9]; · iexact P9
    isplitl [K10]; · iexact K10
    isplitl [P10]; · iexact P10
    isplitl [K11]; · iexact K11
    isplitl [P11]; · iexact P11
    isplitl [A0]; · iexact A0
    isplitl [A1]; · iexact A1
    isplitl [A2]; · iexact A2
    iexact Y0
  iintro ⟨Ho, Z9, Z10, Z11, Gam, Y0⟩
  dsimp only
  rw [wp_bind]
  iapply (part15 m K c) $$ [Y0 Y1 Y2 O0 O1 S3 S4]
  · isplitr; · iexact HR
    isplitl [Y0]; · iexact Y0
    isplitl [Y1]; · iexact Y1
    isplitl [Y2]; · iexact Y2
    isplitl [O0]; · iexact O0
    isplitl [O1]; · iexact O1
    isplitl [S3]; · iexact S3
    iexact S4
  iintro ⟨L0, L1, Y2⟩
  dsimp only
  rw [wp_bind]
  iapply (part16 m K c) $$ [Y2 Y3 O2 O3 S5 S6]
  · isplitr; · iexact HR
    isplitl [Y2]; · iexact Y2
    isplitl [Y3]; · iexact Y3
    isplitl [O2]; · iexact O2
    isplitl [O3]; · iexact O3
    isplitl [S5]; · iexact S5
    iexact S6
  iintro ⟨L2, L3⟩
  simp only [Prog.lift, Prog.bind_op, Prog.bind_ret, Prog.pure_eq_ret]
  iapply (copy_wait m K c 10 rfl (by decide)) $$ [L0 Ho]
  · isplitr; · iexact HR
    isplitl [L0]; · iexact L0
    iexact Ho
  iintro ⟨⟨O0, Y0⟩, S3, Ho⟩
  iapply (copy_wait m K c 10 rfl (by decide)) $$ [L1 Ho]
  · isplitr; · iexact HR
    isplitl [L1]; · iexact L1
    iexact Ho
  iintro ⟨⟨O1, Y1⟩, S4, Ho⟩
  iapply (copy_wait m K c 10 rfl (by decide)) $$ [L2 Ho]
  · isplitr; · iexact HR
    isplitl [L2]; · iexact L2
    iexact Ho
  iintro ⟨⟨O2, Y2⟩, S5, Ho⟩
  iapply (copy_wait m K c 10 rfl (by decide)) $$ [L3 Ho]
  · isplitr; · iexact HR
    isplitl [L3]; · iexact L3
    iexact Ho
  iintro ⟨⟨O3, Y3⟩, S6, Ho⟩
  rw [wp_ret]; imodintro
  iapply Hk
  isplitl [XR XL XO XC Xback WC WL WR WO Wback O0 O1 O2 O3]
  · isplitl [XR XL XO XC Xback]
    · iapply Xback
      isplitl [XR]; · iexact XR
      isplitl [XL]; · iexact XL
      isplitl [XO]; · iexact XO
      iexact XC
    isplitl [WC WL WR WO Wback]
    · iapply Wback
      isplitl [WC]; · iexact WC
      isplitl [WL]; · iexact WL
      isplitl [WR]; · iexact WR
      iexact WO
    iapply (o_all c (out m c)).2
    isplitl [O0]; · iexact O0
    isplitl [O1]; · iexact O1
    isplitl [O2]; · iexact O2
    iexact O3
  isplitl [Z0 Z1 Z2 Z3 Z4 Z5 Z6 Z7 Z8 Z9 Z10 Z11 Z12 Z13 Z14]
  · isplitl [Z0]; · iexact Z0
    isplitl [Z1]; · iexact Z1
    isplitl [Z2]; · iexact Z2
    isplitl [Z3]; · iexact Z3
    isplitl [Z4]; · iexact Z4
    isplitl [Z5]; · iexact Z5
    isplitl [Z6]; · iexact Z6
    isplitl [Z7]; · iexact Z7
    isplitl [Z8]; · iexact Z8
    isplitl [Z9]; · iexact Z9
    isplitl [Z10]; · iexact Z10
    isplitl [Z11]; · iexact Z11
    isplitl [Z12]; · iexact Z12
    isplitl [Z13]; · iexact Z13
    iexact Z14
  isplitl [S0 S1 S2 S3 S4 S5 S6]
  · isplitl [S0]; · iexact S0
    isplitl [S1]; · iexact S1
    isplitl [S2]; · iexact S2
    isplitl [S3]; · iexact S3
    isplitl [S4]; · iexact S4
    isplitl [S5]; · iexact S5
    iexact S6
  isplitr [Ho]
  · isplitl [X0 X1 Xr]
    · iapply (xs_join c)
      isplitl [X0]; · iexact X0
      isplitl [X1]; · iexact X1
      iexact Xr
    isplitl [B0 B1 Ba Bb Brest B3 Br]
    · iapply (sb_join c)
      isplitl [B0]; · iexact B0
      isplitl [B1]; · iexact B1
      isplitl [Ba Bb Brest]
      · iapply (sb2_join c)
        isplitl [Ba]; · iexact Ba
        isplitl [Bb]; · iexact Bb
        iexact Brest
      isplitl [B3]; · iexact B3
      iexact Br
    isplitl [R0 R1 R2 R3 Rr]
    · iapply (rb_join c)
      isplitl [R0]; · iexact R0
      isplitl [R1]; · iexact R1
      isplitl [R2]; · iexact R2
      isplitl [R3]; · iexact R3
      iexact Rr
    isplitl [Gws]; · iexact Gws
    isplitl [Gwb]; · iexact Gwb
    isplitl [Y0 Y1 Yra Y2 Y3 Yrb Yr]
    · iapply (y_join c)
      isplitl [Y0 Y1 Yra]
      · isplitl [Y0]; · iexists _; iexact Y0
        isplitl [Y1]; · iexists _; iexact Y1
        iexact Yra
      isplitl [Y2 Y3 Yrb]
      · isplitl [Y2]; · iexists _; iexact Y2
        isplitl [Y3]; · iexists _; iexact Y3
        iexact Yrb
      iexact Yr
    iexact Gam
  iexact Ho

end Cert.KernelIdeal.Hand
-- ==== Proof.IdealLaunch.lean ====
/-
# The launch: from the machine's first state to its last
-/
module

public import proofs.«01_k».proof.Proof.IdealBody
public import proofs.«01_k».proof.Proof.Gen.KernelIdeal.Points
public import Idealize.ShloMosaic.Lib.Pipeline.Launch
public import Idealize.ShloMosaic.Lib.Pipeline.Kit
public import Idealize.ShloMosaic.Lib.Quiescent
public import Idealize.ShloMosaic.Lib.Pipeline.CollectiveSegs

@[expose] public section

noncomputable section

namespace Cert.KernelIdeal.Hand

open Cert.KernelIdeal Cert.KernelIdeal.Gen Cert.Steps

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × Fin 15 → ℕ)

open Idealize.ShloMosaic.Pipeline (Dat Cfg Window BodyObligation cellOf)

variable (ρ : Dev nD → PrngReg)

/-- The device's own semaphores, all of transfers. -/
abbrev osem : Fin 21 → SemLoc sig := fun j => .dma j
abbrev Vn : Variants := Variants.none

/-! ## What a device starts from and what it ends with -/

def start (c : Dev nD) : sProp 𝕄 := iprop((∃ K, recs m K ∗ posns c ∗ payToks c) ∗ creds0 c ∗ arrs0 m c ∗ szs c)
def Φ₀ (c : Dev nD) : sProp 𝕄 := iprop(start m c ∗ scr c)
def Φ₁ (c : Dev nD) : sProp 𝕄 := iprop(arrs1 m c ∗ zeros c ∗ szs c ∗ scr c)

/-- The data of the one region: no windows; everything a device owes at launch is paid at the end. -/
def dats (_ : Fin 1) (c : Dev nD) : Dat τ (Elt F) Unit ℕ UU ℕ cfg0 c where
  A w := Fin.elim0 w
  after w _ := Fin.elim0 w
  Φ t := match t with
    | ⟨0, _⟩ => Φ₀ m c
    | ⟨_ + 1, _⟩ => Φ₁ m c
  q _ := fullShare
  owed t := match t with
    | ⟨0, _⟩ => O c 0
    | ⟨_ + 1, _⟩ => 0

/-- The body between the two. -/
theorem body_obligation (c : Dev nD) : BodyObligation (dats (F := F) m 0 c) (defs₀ (F := F)) Vn () Set.univ := fun t => by
  rw [fin_N0 t]
  show iprop(Φ₀ m c ∗ (dats m 0 c).owesAt () t0_0.castSucc ∗ _) ⊢ wp frame (wpE (defs₀ (F := F)) Vn (c : Thread nD τ) none) Set.univ
    (bodyAt0 t0_0) (fun _ => iprop(Φ₁ m c ∗ (dats m 0 c).owesAt () t0_0.succ ∗ emp))
  unfold Φ₀ start Dat.owesAt Pipeline.owesWithin
  rw [show (dats m 0 c).owed t0_0.castSucc = O c 0 from rfl, show (dats m 0 c).owed t0_0.succ = O c 10 from rfl]
  iintro ⟨⟨⟨⟨%K, HR, Hp, Ht⟩, Hc, Ha, Hz⟩, Hs⟩, ⟨%W, %hW, Ho⟩, -⟩
  iapply (body m K c _) $$ [HR Hp Ht Hc Ha Hz Hs Ho]
  · isplitl [HR]; · iexact HR
    isplitl [Hp]; · iexact Hp
    isplitl [Ht]; · iexact Ht
    isplitl [Hc]; · iexact Hc
    isplitl [Ha]; · iexact Ha
    isplitl [Hz]; · iexact Hz
    isplitl [Hs]; · iexact Hs
    unfold Owe
    iexists W; iexact Ho
  iintro ⟨Ha, Hz, Hs, Hb, Ho⟩
  unfold Φ₁ Owe
  icases Ho with ⟨%W', Ho⟩
  isplitl [Ha Hz Hs Hb]
  · isplitl [Ha]; · iexact Ha
    isplitl [Hz]; · iexact Hz
    isplitl [Hs]; · iexact Hs
    iexact Hb
  isplitl [Ho]
  · iexists W'
    isplitr; · ipureintro; exact fun _ _ => Or.inl trivial
    iexact Ho
  iempintro

/-! ## The ghost state at launch -/

theorem ownSemFacts : Pipeline.OwnSemFacts cfg0.spec osem := by decide

theorem csem_injective : Function.Injective csem := by decide
theorem kcell_injective : Function.Injective (kcell : Dev nD × Fin 15 → GSem nD τ sig) := fun ⟨c, k⟩ ⟨c', k'⟩ h => by
  have h1 : c = c' := congrArg (fun g : GSem nD τ sig => g.1.1) h
  have h2 : k = k' := csem_injective (congrArg Prod.snd h)
  rw [h1, h2]
def allCells : Finset (GSem nD τ sig) := Finset.univ.map ⟨kcell, kcell_injective⟩

/-- The duties of a device, in the order of `payToks`: the cell's number and the duty's; and whose cell it is. -/
def dutyAt : Fin 17 → Fin 15 × Duty :=
  ![(0, 0), (0, 1), (0, 2), (1, 0), (5, 0), (2, 0), (6, 0), (3, 0), (7, 0), (4, 0), (8, 0), (9, 0), (12, 0), (10, 0), (13, 0), (11, 0), (14, 0)]
theorem dutyAt_injective : Function.Injective dutyAt := by decide
def toRt : Dev nD ≃ Dev nD := ⟨rt, lf, lf_rt, rt_lf⟩
def toOp : Dev nD ≃ Dev nD := ⟨op, op, op_op, op_op⟩
def whose : Fin 17 → (Dev nD ≃ Dev nD) :=
  ![toRt.symm, toRt, toOp, Equiv.refl _, toRt, Equiv.refl _, toRt.symm, Equiv.refl _, toOp, Equiv.refl _, toOp, Equiv.refl _, toRt, Equiv.refl _,
    toRt.symm, Equiv.refl _, toOp]

abbrev tokAt (p : Dev nD × Fin 17) : GSem nD τ sig × ℕ × Duty := (kcell (p.1, (dutyAt p.2).1), 0, (dutyAt p.2).2)
theorem tokAt_injective : Function.Injective tokAt := fun ⟨c, j⟩ ⟨c', j'⟩ h => by
  have h1 := kcell_injective (congrArg Prod.fst h)
  have h2 : (dutyAt j).2 = (dutyAt j').2 := congrArg (fun x : GSem nD τ sig × ℕ × Duty => x.2.2) h
  have h3 : j = j' := dutyAt_injective (Prod.ext (congrArg Prod.snd h1) h2)
  have h4 : c = c' := congrArg Prod.fst h1
  rw [h3, h4]
def allToks : Finset (GSem nD τ sig × ℕ × Duty) := Finset.univ.map ⟨tokAt, tokAt_injective⟩

def u₀ : UU :=
  (initOf (Pipeline.cells cfgs cellOf_inj) (Pipeline.launchToks cfgs cellOf_inj), (initOf allCells allToks, 1))

/-- The tokens of the duties at a device's own cells. -/
def toks (c : Dev nD) : sProp 𝕄 := bigSep Finset.univ fun j : Fin 17 => tok c (dutyAt j).1 (dutyAt j).2

def G (c : Dev nD) : sProp 𝕄 :=
  iprop((bigSep Finset.univ fun k : Fin 15 => roundState ER (Rd m) (kcell (c, k)) 0)
    ∗ (bigSep Finset.univ fun k : Fin 15 => iprop(pos c k ∗ reached ER (kcell (c, k)) 0)) ∗ toks c)

/-- The records but for the levels. -/
def cellRecs (K : Dev nD × Fin 15 → ℕ) : sProp 𝕄 :=
  iprop((bigSep Finset.univ fun ck : Dev nD × Fin 15 => cellInv ER (Rd m) (K ck) (kcell ck))
    ∗ bigSep Finset.univ fun ck : Dev nD × Fin 15 => reached ER (kcell ck) 0)
instance cellRecs_persistent (K : Dev nD × Fin 15 → ℕ) : BI.Persistent (cellRecs (F := F) m K) := by unfold cellRecs; infer_instance

def G' (c : Dev nD) : sProp 𝕄 := iprop((∃ K, cellRecs m K ∗ posns c ∗ payToks c) ∗ szs c)

theorem bigSep_fin15 (Φ : Fin 15 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ
theorem bigSep_fin17 (Φ : Fin 17 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16) :=
  bigSep_univ_eq_bigSepL [0, 1, 2, 3, 4, 5, 6, 7, 8, 9, 10, 11, 12, 13, 14, 15, 16] (by decide) (by decide) Φ

/-- The launch element deals every device its cells. -/
theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 15 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks toks; rw [bigSep_map, bigSep_univ_prod]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The device's own semaphores; -/
theorem ownSems0_eq (c : Dev nD) : (Pipeline.ownSems0 (Ix := Unit) (Name := ℕ) (U := UU) (Lvl := ℕ) (Val := Elt F) (τ := τ) osem c : sProp 𝕄)
    = iprop(sz c 0 ∗ sz c 1 ∗ sz c 2 ∗ sz c 3 ∗ sz c 4 ∗ sz c 5 ∗ sz c 6 ∗ sz c 7 ∗ sz c 8 ∗ sz c 9 ∗ sz c 10 ∗ sz c 11 ∗ sz c 12 ∗ sz c 13 ∗ sz c 14 ∗ sz c 15 ∗ sz c 16 ∗ sz c 17 ∗ sz c 18 ∗ sz c 19 ∗ sz c 20) := by
  rw [Pipeline.ownSems0_eq_of_list c osem [0, 1, 2, 3, 4, 5, 6, 7, 8, 9, 10, 11, 12, 13, 14, 15, 16, 17, 18, 19, 20] (by decide) (by decide)]; rfl
/-- the barrier's is the one semaphore beside them. -/
theorem unscopedSems0_eq (c : Dev nD) : (unscopedSems0 c : sProp 𝕄) = zero c 0 := by
  unfold unscopedSems0; rw [bigSep_eq_bigSepL_of_eq [SemLoc.reg 0] (by decide) (by decide)]; rfl

theorem sems_split (c : Dev nD) :
    iprop(Pipeline.ownSems0 (Ix := Unit) (Name := ℕ) (U := UU) (Lvl := ℕ) (Val := Elt F) (τ := τ) osem c ∗ unscopedSems0 c)
      ⊢ (iprop(zeros c ∗ szs c) : sProp 𝕄) := by
  rw [ownSems0_eq, unscopedSems0_eq]
  unfold zeros szs
  iintro ⟨⟨S0, S1, S2, S3, S4, S5, S6, S7, S8, S9, S10, S11, S12, S13, S14, S15, S16, S17, S18, S19, S20⟩, Z⟩
  isplitr [S0 S1 S2 S3 S4 S5 S6]
  · isplitl [Z]; · iexact Z
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [S16]; · iexact S16
    isplitl [S17]; · iexact S17
    isplitl [S18]; · iexact S18
    isplitl [S19]; · iexact S19
    iexact S20
  isplitl [S0]; · iexact S0
  isplitl [S1]; · iexact S1
  isplitl [S2]; · iexact S2
  isplitl [S3]; · iexact S3
  isplitl [S4]; · iexact S4
  isplitl [S5]; · iexact S5
  iexact S6

theorem sems_join (c : Dev nD) :
    (iprop(zeros c ∗ szs c) : sProp 𝕄)
      ⊢ iprop(unscopedSems0 c ∗ Pipeline.ownSems0 (Ix := Unit) (Name := ℕ) (U := UU) (Lvl := ℕ) (Val := Elt F) (τ := τ) osem c) := by
  rw [ownSems0_eq, unscopedSems0_eq]
  unfold zeros szs
  iintro ⟨⟨Z, S7, S8, S9, S10, S11, S12, S13, S14, S15, S16, S17, S18, S19, S20⟩, S0, S1, S2, S3, S4, S5, S6⟩
  isplitl [Z]; · iexact Z
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  isplitl [S16]; · iexact S16
  isplitl [S17]; · iexact S17
  isplitl [S18]; · iexact S18
  isplitl [S19]; · iexact S19
  iexact S20

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 15 => iprop(∃ κ : ℕ, cellInv ER (Rd m) κ (kcell (c, k))))
          ∗ (bigSep Finset.univ fun k : Fin 15 => iprop(pos c k ∗ reached ER (kcell (c, k)) 0)) ∗ toks c ∗ szs c) := by
  unfold G
  iintro ⟨Hos, Hus, Hst, Hat, Htok⟩
  ihave Hv := (sems_split (F := F) c) $$ [Hos Hus]
  · isplitl [Hos] <;> iassumption
  icases Hv with ⟨Hv, Hz⟩
  imod (show iprop(zeros c ∗ bigSep Finset.univ fun k : Fin 15 => roundState ER (Rd m) (kcell (c, k)) 0)
      ⊢ (|={Set.univ}=> bigSep Finset.univ fun k => iprop(∃ κ : ℕ, cellInv ER (Rd m) κ (kcell (c, k))) : sProp 𝕄) from by
        rw [show (zeros c : sProp 𝕄) = bigSep Finset.univ fun k : Fin 15 => zero c k from (bigSep_fin15 fun k => zero c k).symm, ← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hz

/-- By device and then by duty, or by duty and then by device. -/
theorem by_duty (Φ : Dev nD → Fin 17 → sProp 𝕄) :
    (bigSep Finset.univ fun c => bigSep Finset.univ fun j => Φ c j) = bigSep Finset.univ fun j => bigSep Finset.univ fun c => Φ c j := by
  rw [← bigSep_univ_prod (fun p : Dev nD × Fin 17 => Φ p.1 p.2), ← bigSep_univ_prod (fun p : Fin 17 × Dev nD => Φ p.2 p.1)]
  exact bigSep_univ_equiv (Equiv.prodComm _ _) _

/-- The tokens dealt to those who pay: each family goes round by its own permutation of the devices. -/
theorem toks_around : (bigSep Finset.univ fun c : Dev nD => (toks c : sProp 𝕄)) ⊢ bigSep Finset.univ fun c : Dev nD => payToks c := by
  have e : (fun c : Dev nD => (payToks c : sProp 𝕄)) = fun c => bigSep Finset.univ fun j : Fin 17 => tok (whose j c) (dutyAt j).1 (dutyAt j).2 :=
    funext fun c => (bigSep_fin17 fun j => tok (whose j c) (dutyAt j).1 (dutyAt j).2).symm
  rw [e]
  unfold toks
  rw [by_duty fun c j => tok c (dutyAt j).1 (dutyAt j).2, by_duty fun c j => tok (whose j c) (dutyAt j).1 (dutyAt j).2]
  exact bigSep_mono fun j _ => Entails.of_eq (bigSep_univ_equiv (whose j) _)

/-- What may be read by everyone goes to everyone. -/
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Fin 15 => iprop(∃ κ : ℕ, cellInv ER (Rd m) κ (kcell (c, k))))
          ∗ (bigSep Finset.univ fun k : Fin 15 => iprop(pos c k ∗ reached ER (kcell (c, k)) 0)) ∗ toks c ∗ szs c) : sProp 𝕄)
      ⊢ bigSep Finset.univ (G' m) := by
  rw [bigSep_sep', bigSep_sep', bigSep_sep', ← bigSep_univ_prod (fun ck : Dev nD × Fin 15 => iprop(∃ κ : ℕ, cellInv ER (Rd m) κ (kcell ck))),
    bigSep_congr (s := Finset.univ) (fun (c : Dev nD) _ => bigSep_sep' Finset.univ (fun k : Fin 15 => (pos c k : sProp 𝕄)) (fun k => reached ER (kcell (c, k)) 0)),
    bigSep_sep', ← bigSep_univ_prod (fun ck : Dev nD × Fin 15 => (reached ER (kcell ck) 0 : sProp 𝕄))]
  iintro ⟨HI, ⟨Hat, #HR⟩, Htok, Hz⟩
  ihave HK := (BI.bigSep_exists_pi Finset.univ (fun (ck : Dev nD × Fin 15) (κ : ℕ) => (cellInv ER (Rd m) κ (kcell ck) : sProp 𝕄))) $$ HI
  icases HK with ⟨%K, #HI⟩
  ihave Htk := (toks_around (F := F)) $$ Htok
  iapply (bigSep_with (R := cellRecs m K) (Φ := fun c => iprop(posns c ∗ payToks c ∗ szs c)) fun c _ => show _ ⊢ G' m c by
    unfold G'
    iintro ⟨#H, Hp, Ht, Hz⟩
    isplitr [Hz]
    · iexists K
      isplitr; · iexact H
      isplitl [Hp]; · iexact Hp
      iexact Ht
    iexact Hz)
  isplitr
  · unfold cellRecs; isplitl; · iexact HI
    iexact HR
  rw [bigSep_sep', bigSep_sep', show (posns : Dev nD → sProp 𝕄) = fun c => bigSep Finset.univ fun k : Fin 15 => pos c k from
    funext fun c => (bigSep_fin15 fun k => pos c k).symm]
  isplitl [Hat]; · iexact Hat
  isplitl [Htk]; · iexact Htk
  iexact Hz

/-- The one step that all devices take together before they start. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

/-- What a list of dues owes a cell: its amount as often as the list names it. -/
theorem owing_at (l : List (Dev nD × Fin 15)) (p : Dev nD × Fin 15) : owing l (kcell p) () = l.count p * amt p.2 := by
  induction l with
  | nil => simp [owing]
  | cons q l ih =>
    unfold owing
    rw [Pi.add_apply, Finsupp.add_apply, ih, tallyAt_apply, List.count_cons, Nat.add_mul]
    congr 1
    by_cases h : q = p
    · subst h; simp
    · rw [if_neg fun h' => h (kcell_injective h'.1).symm, if_neg (by simpa using h), Nat.zero_mul]

/-- How many devices' dues name a cell. -/
def owers (k : Fin 15) : ℕ := match k with
  | 0 => 3 | 5 => 1 | 6 => 1 | 7 => 1 | 8 => 1 | 12 => 1 | 13 => 1 | 14 => 1 | _ => 0
theorem count_dues (c : Dev nD) (k : Fin 15) : ∑ d : Dev nD, (dues d).count (c, k) = owers k := by
  revert c k; decide +kernel

theorem launch_at (c : Dev nD) (k : Fin 15) :
    tallyOn (kcell (c, k)) (launchCredit (Pipeline.owing fun d => O d 0) 0 (kcell (c, k))) = (tallyAt (kcell (c, k)) () (owers k * amt k) : CellTallies nD τ sig Unit) := by
  unfold tallyAt; refine congrArg _ (Finsupp.ext fun u => ?_); cases u
  rw [Pipeline.launchCredit_owing, Finsupp.single_eq_same]
  show ∑ d : Dev nD, owing (dues d) (kcell (c, k)) () = _
  rw [Finset.sum_congr rfl fun d _ => owing_at (dues d) (c, k), ← Finset.sum_mul, count_dues]

theorem creds (c : Dev nD) : (Pipeline.launchCred (fun d => O d 0) c : sProp 𝕄) ⊢ creds0 c := by
  unfold Pipeline.launchCred
  generalize hΨ : (fun sm : SemLoc sig => (cred (tallyOn ((c : Thread nD τ), sm) (launchCredit (Pipeline.owing fun d => O d 0) 0 ((c : Thread nD τ), sm))) : sProp 𝕄)) = Ψ
  have h : bigSep Finset.univ Ψ ⊢ bigSep Finset.univ fun k : Fin 15 => Ψ (csem k) := by
    have := BI.bigSep_subset (Φ := Ψ) (Finset.subset_univ (Finset.univ.map ⟨csem, csem_injective⟩))
    rwa [bigSep_map] at this
  refine h.trans ?_
  have e (k : Fin 15) : Ψ (csem k) = crd c k (owers k * amt k) := by
    rw [← hΨ]; exact congrArg _ (launch_at c k)
  simp only [e]
  rw [bigSep_fin15]
  unfold creds0
  simp only [owers, Nat.one_mul]
  iintro ⟨C0, -, -, -, -, C5, C6, C7, C8, -, -, -, C12, C13, C14⟩
  isplitl [C0]; · iexact C0
  isplitl [C5]; · iexact C5
  isplitl [C6]; · iexact C6
  isplitl [C7]; · iexact C7
  isplitl [C8]; · iexact C8
  isplitl [C12]; · iexact C12
  isplitl [C13]; · iexact C13
  iexact C14

/-! ## The run -/

theorem pt_whole (c : Dev nD) (b : Ref sig .tc) (q : PosShare TreeShare) (f : Buf (Elt F) ((c : Thread nD τ).loc b)) :
    (pt c (Memref.whole b) q f : sProp 𝕄) = (((c : Thread nD τ).loc b) ↦{q} f) := by
  unfold pt; rw [show (Memref.whole b).view.set = Finset.univ from View.set_whole b]

theorem start_intro (c : Dev nD) :
    iprop(Pipeline.unscopedRestP Pipeline.Prefetch.none cfg0.spec c (fun b => m ((c : Thread nD τ).loc b)) ∗ levAts L lv
        ∗ Pipeline.launchCred (fun d => O d 0) c ∗ prngReg c (ρ c) ∗ G' m c)
      ⊢ |={Set.univ}=> iprop(start m c ∗ emp) := by
  rw [Pipeline.unscopedRestP_none, unscopedRest0_eq]
  unfold start G' arrs0
  rw [pt_whole, pt_whole]
  iintro ⟨⟨Hx, Hw, Ho⟩, Hlev, Hcr, -, ⟨%K, HR, Hp, Ht⟩, Hz⟩
  ihave Hc := (creds (F := F) c) $$ Hcr
  imodintro
  isplitl
  · isplitl [HR Hp Ht Hlev]
    · iexists K
      unfold recs cellRecs
      icases HR with ⟨HI, HR⟩
      isplitl [HI HR Hlev]
      · isplitl [HI]; · iexact HI
        isplitl [HR] <;> iassumption
      isplitl [Hp] <;> iassumption
    isplitl [Hc]; · iexact Hc
    isplitl [Hx Hw Ho]
    · isplitl [Hx]; · iexact Hx
      isplitl [Hw]; · iexact Hw
      iexists _; rw [pt_whole]; iexact Ho
    iexact Hz
  · iempintro

theorem scr_eq (c : Dev nD) : (scr c : sProp 𝕄) = Pipeline.scopedRest cfg0.spec c := by
  rw [scopedRest0_eq]
  unfold scr anyAt
  simp only [pt_whole]

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, ← scr_eq]
  unfold Φ₀
  iintro ⟨Hs, -, Hr⟩
  isplitl [Hs] <;> iassumption

theorem phi1_exit (c : Dev nD) :
    (dats m 0 c).Φ (Fin.last cfg0.N) ⊢ iprop((arrs1 m c ∗ unscopedSems0 c) ∗ Pipeline.ownSems0 osem c ∗ Pipeline.scopedRest cfg0.spec c) := by
  rw [show (dats m 0 c).Φ (Fin.last cfg0.N) = Φ₁ m c from rfl, ← scr_eq]
  unfold Φ₁
  iintro ⟨Ha, Hz, Hs, Hr⟩
  ihave H := (sems_join (F := F) c) $$ [Hz Hs]
  · isplitl [Hz] <;> iassumption
  icases H with ⟨Hu, Hos⟩
  isplitl [Ha Hu]
  · isplitl [Ha] <;> iassumption
  isplitl [Hos] <;> iassumption

/-- What the arrays hold at the end. -/
def QY (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1)
    ∧ s.mem ((c : Thread nD τ).loc main_v1) = out m c)
  ∧ ∀ sm : SemLoc sig, sm.isScoped .tc = false → s.sem ((c.tc : Thread nD τ), sm) = 0

theorem read_end (c : Dev nD) (s' : Phys nD τ sig (Elt F)) :
    iprop((arrs1 m c ∗ unscopedSems0 c) ∗ emp ∗ SI s') ⊢ (|={Set.univ}=> iprop(⌜QY m c s'.mem⌝ ∗ SI s') : sProp 𝕄) := by
  unfold arrs1
  rw [pt_whole, pt_whole, pt_whole]
  iintro ⟨⟨⟨Hx, Hw, Ho⟩, Hu⟩, -, HSI⟩
  icombine HSI Hx gives %hx
  icombine HSI Hw gives %hw
  icombine HSI Ho gives %ho
  imod (Pipeline.unscopedSems0_read (X := unscopedSems0 c) (c := c) fupd_intro s') $$ [Hu HSI] with ⟨%hu, HSI⟩
  · isplitl [Hu] <;> iassumption
  imodintro
  isplitr
  · ipureintro
    exact ⟨⟨Buf.eq_of_forall_mem_univ hx, Buf.eq_of_forall_mem_univ hw, Buf.eq_of_forall_mem_univ ho⟩, hu⟩
  iexact HSI

set_option maxRecDepth 8000 in
/-- At the mesh of four devices, for any float values, from any memory with zero counters: every weakly fair execution terminates,
    and every final state has both operands as they were on every device, the result of device `c` at `out m c`, and every counter at zero. -/
theorem run_main : θ_run defs (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_v1) = out m c) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ Vn m ρ main
    (hmain := fun _ => rfl)
    (hbody := body_obligation m) (hne := block_pos0) (harr := arr_whole0) (hstage := stage_whole0) (hshare := fun _ w => Fin.elim0 w)
    (hdistinct := winFacts0.arr_inj)
    (O₀ := fun d => O d 0) (howed₀ := fun _ => rfl) (howedN := fun _ => rfl)
    (L := L) (lv := lv) (hL := L_of_ne) (hwaits := fun c => Pipeline.cellsWaits_intro cfgs (dats m) () 0 c fun w => Fin.elim0 w)
    (G := G m) (G' := G' m) (u₀ := u₀)
    (hu₀ := by
      unfold u₀
      iintro Hu
      ihave H := (ownU_pair _ _) $$ Hu
      icases H with ⟨HP, HX⟩
      ihave H := (own_pair_emb embR _ _) $$ HX
      icases H with ⟨HX, -⟩
      imod (fund_all m) $$ HX with HG
      imodintro
      isplitl [HP] <;> iassumption)
    (hglob := glob m)
    (hA := fun _ w => Fin.elim0 w) (hpf := fun _ k => k.elim0)
    (X := start m) (Y := fun c => iprop(arrs1 m c ∗ unscopedSems0 c)) (Z := fun _ => iprop(emp))
    (hX := start_intro m ρ) (hin := phi0_intro m) (hout := phi1_exit m)
    (QY := QY m) (hY := read_end m)
    (hQ := fun _ h hs => ⟨fun c => (h c).2.2.1, sem_eq_zero hs fun c => (h c).2.2.2⟩)

end Cert.KernelIdeal.Hand
-- ==== Proof.Equation.lean ====
/-
  Facts about the extended reals that the value proof takes: a product's row sum cut in four column blocks, and the two
  ways of quantising an element by the array's largest element, which agree. No program is read here.
-/
module

public import Idealize.ShloMosaic.PureOps.Ideal.Laws
public import Mathlib.Data.EReal.Operations
public import Mathlib.Data.EReal.Inv

@[expose] public section

noncomputable section

namespace Cert.Hand

open Idealize.ShloMosaic
open scoped BigOperators

/-- 448, the largest finite number of the eight-bit format. -/
abbrev q448 : EReal := ((448 : ℝ) : EReal)

theorem bits_448 : Ideal.ofBits .f32 0x43E00000#32 = q448 := by
  simp [Ideal.ofBits, Ideal.ieee, -EReal.coe_mul]; norm_num

theorem bits_neg448 : Ideal.ofBits .f32 0xC3E00000#32 = ((-448 : ℝ) : EReal) := by
  simp [Ideal.ofBits, Ideal.ieee, -EReal.coe_mul]; norm_num

theorem bits_bot : Ideal.ofBits .f32 0xFF800000#32 = ⊥ := by
  simp [Ideal.ofBits, Ideal.ieee]

/-- The largest of some values is at most `b` when each is. -/
theorem fold_max_le {ι : Type} (s : Finset ι) (z b : EReal) (f : ι → EReal) :
    s.fold (FloatOps.maximumf (F := Ideal) (φ := .f32)) z f ≤ b ↔ z ≤ b ∧ ∀ i ∈ s, f i ≤ b :=
  Finset.fold_op_rel_iff_and (op := FloatOps.maximumf (F := Ideal) (φ := .f32)) (r := fun x y : EReal => y ≤ x) (f := f) (b := z) max_le_iff

/-- The row number `1024 a + i`. -/
def blk (a : Fin 4) (i : Fin 1024) : Fin 4096 := ⟨1024 * a.val + i.val, by omega⟩

theorem blk_div (r : Fin 4096) : ∃ a i, r = blk a i :=
  ⟨⟨r.val / 1024, by omega⟩, ⟨r.val % 1024, by omega⟩, Fin.ext (by show r.val = 1024 * (r.val / 1024) + r.val % 1024; omega)⟩

/-- A sum over 4096 terms, in four blocks of 1024. -/
theorem sum_blk (f : Fin 4096 → EReal) : ∑ k, f k = ∑ a : Fin 4, ∑ i : Fin 1024, f (blk a i) := by
  rw [← Fintype.sum_prod_type']
  refine (Fintype.sum_equiv (finProdFinEquiv (m := 4) (n := 1024)) _ _ fun p => ?_).symm
  refine congrArg f (Fin.ext ?_)
  show 1024 * p.1.val + p.2.val = p.2.val + 1024 * p.1.val
  omega

/-- One element of a product. -/
def prodE (x : Fin 4096 → Fin 4096 → EReal) (w : Fin 4096 → Fin 2048 → EReal) (r : Fin 4096) (n : Fin 2048) : EReal :=
  ∑ k, x r k * w k n

/-- The part of that element that column block `d` brings. -/
def partE (x : Fin 4096 → Fin 4096 → EReal) (w : Fin 4096 → Fin 2048 → EReal) (d : Fin 4) (r : Fin 4096) (n : Fin 2048) : EReal :=
  ∑ k : Fin 1024, x r (blk d k) * w (blk d k) n

theorem prodE_eq (x : Fin 4096 → Fin 4096 → EReal) (w : Fin 4096 → Fin 2048 → EReal) (r : Fin 4096) (n : Fin 2048) :
    prodE x w r n = ∑ d, partE x w d r n := sum_blk _

/-- The ReLU of that element. -/
def reluE (x : Fin 4096 → Fin 4096 → EReal) (w : Fin 4096 → Fin 2048 → EReal) (r : Fin 4096) (n : Fin 2048) : EReal :=
  max (prodE x w r n) 0

/-- The largest element of the ReLU's array. -/
def topE (x : Fin 4096 → Fin 4096 → EReal) (w : Fin 4096 → Fin 2048 → EReal) : EReal := ⨆ r, ⨆ n, reluE x w r n

theorem topE_le (x : Fin 4096 → Fin 4096 → EReal) (w : Fin 4096 → Fin 2048 → EReal) (b : EReal) :
    topE x w ≤ b ↔ ∀ r n, reluE x w r n ≤ b := by
  simp only [topE, iSup_le_iff]

theorem reluE_le (x : Fin 4096 → Fin 4096 → EReal) (w : Fin 4096 → Fin 2048 → EReal) (r : Fin 4096) (n : Fin 2048) :
    reluE x w r n ≤ topE x w := (topE_le x w _).mp le_rfl r n

theorem reluE_nonneg (x : Fin 4096 → Fin 4096 → EReal) (w : Fin 4096 → Fin 2048 → EReal) (r : Fin 4096) (n : Fin 2048) :
    0 ≤ reluE x w r n := le_max_right _ _

/-- The quantised element scaled back, as the kernel forms it from an element and the largest one. -/
def quantE (R G : EReal) : EReal := min (R * Ideal.div q448 G) q448 * (G * (((448 : ℝ)⁻¹ : ℝ) : EReal))

/-- As the reference forms it, from an element and the scale. -/
def quantR (R s : EReal) : EReal := min q448 (max ((-448 : ℝ) : EReal) (Ideal.div R s)) * s

/-- The two agree for an element between zero and the largest one. -/
theorem quant_eq (R G : EReal) (h0 : 0 ≤ R) (h1 : R ≤ G) : quantE R G = quantR R (Ideal.div G q448) := by
  have hs : Ideal.div G q448 = G * (((448 : ℝ)⁻¹ : ℝ) : EReal) := by
    rw [Ideal.div_coe (by norm_num)]; norm_num
  unfold quantE quantR
  rw [hs]
  induction G with
  | bot => exact absurd (h0.trans h1) (by simp)
  | top =>
    have ht : (⊤ : EReal) * (((448 : ℝ)⁻¹ : ℝ) : EReal) = ⊤ := EReal.top_mul_coe_of_pos (by norm_num)
    rw [ht]
    have hd : ∀ y : EReal, Ideal.div y ⊤ = 0 := fun y => by simp [Ideal.div]
    rw [hd, hd, mul_zero]
    have e1 : min (0 : EReal) q448 = 0 := min_eq_left (EReal.coe_nonneg.mpr (by norm_num))
    have e2 : max ((-448 : ℝ) : EReal) 0 = 0 := max_eq_right (EReal.coe_nonpos.mpr (by norm_num))
    rw [e2, e1, min_comm, e1]
  | coe g =>
    induction R with
    | bot => exact absurd h0 (by simp)
    | top => exact absurd h1 (by simp)
    | coe r =>
      have hr : 0 ≤ r := EReal.coe_nonneg.mp h0
      have hrg : r ≤ g := EReal.coe_le_coe_iff.mp h1
      by_cases hg : g = 0
      · subst hg
        simp
      · have hgp : 0 < g := lt_of_le_of_ne (hr.trans hrg) (Ne.symm hg)
        rw [← EReal.coe_mul, Ideal.div_coe hg, Ideal.div_coe (mul_ne_zero hg (by norm_num)), ← EReal.coe_mul, ← EReal.coe_mul,
          ← EReal.coe_mul]
        have e : r * (448 * (1 / g)) = r * (1 / (g * 448⁻¹)) := by field_simp
        rw [e]
        have hn : ((-448 : ℝ) : EReal) ≤ ((r * (1 / (g * 448⁻¹)) : ℝ) : EReal) :=
          EReal.coe_le_coe_iff.mpr (le_trans (by norm_num) (mul_nonneg hr (by positivity)))
        rw [max_eq_right hn, min_comm]

end Cert.Hand

end
-- ==== Proof.IdealValue.lean ====
/-
  What the idealized kernel leaves in its result, element by element: the running sums are the product's elements, the
  maxima the devices exchange make the largest element of the whole product's ReLU, and a quarter is the quantised ReLU.
-/
module

public import proofs.«01_k».proof.Proof.IdealProto
public import proofs.«01_k».proof.Proof.Equation
public import Idealize.ShloMosaic.PureOps.Ideal.Laws
public import Idealize.ShloMosaic.PureOps.Reduce
public import Idealize.ShloMosaic.Lib.ValueIdx
public import Idealize.ShloMosaic.Lib.ValueLayout
public import Idealize.ShloMosaic.Lib.MatmulPlain

@[expose] public section

noncomputable section

namespace Cert.KernelIdeal.Hand

open Cert.KernelIdeal Cert.KernelIdeal.Gen Cert.Hand Idealize.ShloMosaic Idealize.ShloMosaic.TcCoe
open Idealize.ShloMosaic.ValueIdx
open scoped BigOperators

/-! ## The payloads, element by element -/

theorem ixS_eq (i j : Fin 1024) : ixS i j = ix3 (0 : Fin 1) i j := funext fun a => match a with | 0 => rfl | 1 => rfl | 2 => rfl
theorem ixM_eq (i : Fin 8) (j : Fin 128) : ixM i j = ix3 (0 : Fin 1) i j := funext fun a => match a with | 0 => rfl | 1 => rfl | 2 => rfl
theorem ixH_eq (i : Fin 512) (j : Fin 2048) : ixH i j = ix2 i j := funext fun a => match a with | 0 => rfl | 1 => rfl
theorem ixQ_eq (i : Fin 256) (j : Fin 2048) : ixQ i j = ix2 i j := funext fun a => match a with | 0 => rfl | 1 => rfl
theorem ixY_eq (i : Fin 1024) (j : Fin 2048) : ixY i j = ix2 i j := funext fun a => match a with | 0 => rfl | 1 => rfl

/-- Rounding a slot changes nothing here. -/
theorem pay1_apply (b : FVec Ideal S1x1024x1024 .f32) (i k : Fin 1024) : (k0_pay1 (F := Ideal) b) (ix3 (0 : Fin 1) i k) = b (ix3 (0 : Fin 1) i k) := by
  unfold k0_pay1
  refine (shapeCast_ab_1ab_apply _ _ _ i k).trans ?_
  exact shapeCast_1ab_ab_apply b _ i k

theorem pay2_apply (b : FVec Ideal S1x1024x1024 .f32) (i k : Fin 1024) : (k0_pay2 (F := Ideal) b) (ix3 (0 : Fin 1) i k) = b (ix3 (0 : Fin 1) i k) := by
  unfold k0_pay2
  refine (shapeCast_ab_1ab_apply _ _ _ i k).trans ?_
  exact shapeCast_1ab_ab_apply b _ i k

theorem pay4_apply (b : FVec Ideal S1x1024x1024 .f32) (i k : Fin 1024) : (k0_pay4 (F := Ideal) (k0_pay3 (F := Ideal) b)) (ix3 (0 : Fin 1) i k) = b (ix3 (0 : Fin 1) i k) := by
  unfold k0_pay4 k0_pay3
  refine (shapeCast_ab_1ab_apply _ _ _ i k).trans ?_
  exact shapeCast_1ab_ab_apply b _ i k

theorem pay5_apply (b : FVec Ideal S1x1024x1024 .f32) (i k : Fin 1024) : (k0_pay5 (F := Ideal) b) (ix3 (0 : Fin 1) i k) = b (ix3 (0 : Fin 1) i k) := by
  unfold k0_pay5
  refine (shapeCast_ab_1ab_apply _ _ _ i k).trans ?_
  exact shapeCast_1ab_ab_apply b _ i k

theorem pay6_eq (v : FVec Ideal S1024x2048 .f32) (i : S1024x2048.Idx) : (k0_pay6 (F := Ideal) v) i = v i := by
  unfold k0_pay6
  exact congrFun (shapeCast_self _ _) i

theorem pay9_eq (v : FVec Ideal S1024x2048 .f32) (i : S1024x2048.Idx) : (k0_pay9 (F := Ideal) (k0_pay8 (F := Ideal) v)) i = v i := by
  unfold k0_pay9 k0_pay8
  exact congrFun (shapeCast_self _ _) i

theorem pay12_eq (v : FVec Ideal S1024x2048 .f32) (i : S1024x2048.Idx) : (k0_pay12 (F := Ideal) (k0_pay11 (F := Ideal) v)) i = v i := by
  unfold k0_pay12 k0_pay11
  exact congrFun (shapeCast_self _ _) i

theorem pay14_eq (v : FVec Ideal S1024x2048 .f32) (i : S1024x2048.Idx) : (k0_pay14 (F := Ideal) v) i = v i := by
  unfold k0_pay14
  exact congrFun (shapeCast_self _ _) i

/-- One product of a slot by a block of rows, and of half a slot. -/
theorem mm_apply (a : FVec Ideal S1x1024x1024 .bf16) (u : FVec Ideal S1024x2048 .bf16) (i : Fin 1024) (n : Fin 2048) :
    (matmul dot_S1024x1024_S1024x2048_S1024x2048_1_0_0_1_n_n none (shapeCast S1024x1024 a shapeCasts_S1x1024x1024_S1024x1024) u
      (constant (F := Ideal) S1024x2048 .f32 0x00000000#32) : FVec Ideal S1024x2048 .f32) (ix2 i n)
      = ∑ k : Fin 1024, (a (ix3 (0 : Fin 1) i k) : EReal) * (u (ix2 k n) : EReal) := by
  refine (Ideal.matmul_plain_apply none (shapeCast S1024x1024 a shapeCasts_S1x1024x1024_S1024x1024) u _ i n).trans ?_
  have hz : (constant (F := Ideal) S1024x2048 .f32 0x00000000#32) (ix2 i n) = (0 : EReal) := Ideal.ofBits_zero_f32
  rw [hz, zero_add]
  exact Finset.sum_congr rfl fun k _ => congrArg (· * (u (ix2 k n) : EReal)) (shapeCast_1ab_ab_apply a _ i k)

theorem mmH_apply (a : FVec Ideal S1x512x1024 .bf16) (u : FVec Ideal S1024x2048 .bf16) (i : Fin 512) (n : Fin 2048) :
    (matmul dot_S512x1024_S1024x2048_S512x2048_1_0_0_1_n_n none (shapeCast S512x1024 a shapeCasts_S1x512x1024_S512x1024) u
      (constant (F := Ideal) S512x2048 .f32 0x00000000#32) : FVec Ideal S512x2048 .f32) (ix2 i n)
      = ∑ k : Fin 1024, (a (ix3 (0 : Fin 1) i k) : EReal) * (u (ix2 k n) : EReal) := by
  refine (Ideal.matmul_plain_apply none (shapeCast S512x1024 a shapeCasts_S1x512x1024_S512x1024) u _ i n).trans ?_
  have hz : (constant (F := Ideal) S512x2048 .f32 0x00000000#32) (ix2 i n) = (0 : EReal) := Ideal.ofBits_zero_f32
  rw [hz, zero_add]
  exact Finset.sum_congr rfl fun k _ => congrArg (· * (u (ix2 k n) : EReal)) (shapeCast_1ab_ab_apply a _ i k)

theorem pay7_apply (a : FVec Ideal S1x1024x1024 .bf16) (u : FVec Ideal S1024x2048 .bf16) (i : Fin 1024) (n : Fin 2048) :
    (k0_pay7 (F := Ideal) a u) (ix2 i n) = ∑ k : Fin 1024, (a (ix3 (0 : Fin 1) i k) : EReal) * (u (ix2 k n) : EReal) := by
  unfold k0_pay7
  exact (congrFun (shapeCast_self _ _) _).trans (mm_apply a u i n)

theorem pay10_apply (y : FVec Ideal S1024x2048 .f32) (a : FVec Ideal S1x1024x1024 .bf16) (u : FVec Ideal S1024x2048 .bf16) (i : Fin 1024) (n : Fin 2048) :
    (k0_pay10 (F := Ideal) y a u) (ix2 i n) = (y (ix2 i n) : EReal) + ∑ k : Fin 1024, (a (ix3 (0 : Fin 1) i k) : EReal) * (u (ix2 k n) : EReal) := by
  unfold k0_pay10
  exact (congrFun (shapeCast_self _ _) _).trans (congrArg ((y (ix2 i n) : EReal) + ·) (mm_apply a u i n))

theorem pay13_apply (y : FVec Ideal S1024x2048 .f32) (a : FVec Ideal S1x1024x1024 .bf16) (u : FVec Ideal S1024x2048 .bf16) (i : Fin 1024) (n : Fin 2048) :
    (k0_pay13 (F := Ideal) y a u) (ix2 i n) = (y (ix2 i n) : EReal) + ∑ k : Fin 1024, (a (ix3 (0 : Fin 1) i k) : EReal) * (u (ix2 k n) : EReal) := by
  unfold k0_pay13
  exact (congrFun (shapeCast_self _ _) _).trans (congrArg ((y (ix2 i n) : EReal) + ·) (mm_apply a u i n))

theorem pay15_apply (y : FVec Ideal S512x2048 .f32) (a : FVec Ideal S1x512x1024 .bf16) (u : FVec Ideal S1024x2048 .bf16) (i : Fin 512) (n : Fin 2048) :
    (k0_pay15 (F := Ideal) y a u) (ix2 i n) = (y (ix2 i n) : EReal) + ∑ k : Fin 1024, (a (ix3 (0 : Fin 1) i k) : EReal) * (u (ix2 k n) : EReal) := by
  unfold k0_pay15
  exact (congrFun (shapeCast_self _ _) _).trans (congrArg ((y (ix2 i n) : EReal) + ·) (mmH_apply a u i n))

theorem pay17_apply (y : FVec Ideal S512x2048 .f32) (a : FVec Ideal S1x512x1024 .bf16) (u : FVec Ideal S1024x2048 .bf16) (i : Fin 512) (n : Fin 2048) :
    (k0_pay17 (F := Ideal) y a u) (ix2 i n) = (y (ix2 i n) : EReal) + ∑ k : Fin 1024, (a (ix3 (0 : Fin 1) i k) : EReal) * (u (ix2 k n) : EReal) := by
  unfold k0_pay17
  exact (congrFun (shapeCast_self _ _) _).trans (congrArg ((y (ix2 i n) : EReal) + ·) (mmH_apply a u i n))

/-! ## The maxima -/

instance : Subsingleton S1.Idx := ⟨fun i j => funext fun a => match a with
  | ⟨0, _⟩ => Subsingleton.elim (α := Fin 1) (i 0) (j 0)⟩

/-- A maximum over all the elements of a stack of one matrix is at most `b` when each element is. -/
theorem red_le (Y : FVec Ideal S1x512x2048 .f32) (j : S1.Idx) (b : EReal) :
    (multiReduction .maximumf [1, 2] S1 Y 0xFF800000#32 reduces_S1x512x2048_S1 (.inl rfl) rfl j : EReal) ≤ b
      ↔ ∀ i, (Y i : EReal) ≤ b := by
  have e := multiReduction_maximumf_eq_fold (F := Ideal) Y 0xFF800000#32 reduces_S1x512x2048_S1 (.inl rfl) rfl j
  refine (iff_of_eq (congrArg (fun z : EReal => z ≤ b) e)).trans ?_
  refine (fold_max_le _ _ b _).trans ?_
  have h4 : (FloatOps.ofBits (F := Ideal) .f32 0xFF800000#32) = (⊥ : EReal) := bits_bot
  rw [h4]
  exact ⟨fun h i => h.2 i (Finset.mem_filter.mpr ⟨Finset.mem_univ _, Subsingleton.elim _ _⟩), fun h => ⟨bot_le, fun i _ => h i⟩⟩

theorem redA_le (Y : FVec Ideal S1x4x8x128 .f32) (j : S1.Idx) (b : EReal) :
    (multiReduction .maximumf [1, 2, 3] S1 Y 0xFF800000#32 reduces_S1x4x8x128_S1 (.inl rfl) rfl j : EReal) ≤ b
      ↔ ∀ i, (Y i : EReal) ≤ b := by
  have e := multiReduction_maximumf_eq_fold (F := Ideal) Y 0xFF800000#32 reduces_S1x4x8x128_S1 (.inl rfl) rfl j
  refine (iff_of_eq (congrArg (fun z : EReal => z ≤ b) e)).trans ?_
  refine (fold_max_le _ _ b _).trans ?_
  have h4 : (FloatOps.ofBits (F := Ideal) .f32 0xFF800000#32) = (⊥ : EReal) := bits_bot
  rw [h4]
  exact ⟨fun h i => h.2 i (Finset.mem_filter.mpr ⟨Finset.mem_univ _, Subsingleton.elim _ _⟩), fun h => ⟨bot_le, fun i _ => h i⟩⟩

/-- The elements of a half's ReLU, stacked. -/
theorem stackH_le (Y : FVec Ideal S512x2048 .f32) (b : EReal) :
    (∀ i, ((shapeCast S1x512x2048 (maximumf Y (broadcast S512x2048 (Scalar.ofBits (F := Ideal) .f32 0x00000000#32))) shapeCasts_S512x2048_S1x512x2048
      : FVec Ideal S1x512x2048 .f32) i : EReal) ≤ b) ↔ ∀ (i : Fin 512) (n : Fin 2048), max (Y (ix2 i n) : EReal) 0 ≤ b := by
  have h0 : ∀ (u : Fin 1) (i : Fin 512) (n : Fin 2048), ((shapeCast S1x512x2048 (maximumf Y (broadcast S512x2048 (Scalar.ofBits (F := Ideal) .f32 0x00000000#32)))
      shapeCasts_S512x2048_S1x512x2048 : FVec Ideal S1x512x2048 .f32) (ix3 u i n) : EReal) = max (Y (ix2 i n) : EReal) 0 := fun u i n => by
    refine (shapeCast_ab_1ab_apply _ _ u i n).trans ?_
    show max (Y (ix2 i n) : EReal) (Ideal.ofBits .f32 0x00000000#32) = _
    rw [Ideal.ofBits_zero_f32]
  constructor
  · intro h i n
    rw [← h0 0 i n]; exact h _
  · intro h i
    obtain ⟨u, p, q, rfl⟩ : ∃ (u : Fin 1) (p : Fin 512) (q : Fin 2048), i = ix3 u p q := ⟨i 0, i 1, i 2, eq_ix3 i⟩
    rw [h0]; exact h _ _

/-- The one element of a reduced array. -/
theorem one_of (v : FVec Ideal S1 .f32) : ∃ j, extractAt ![0, 0, 0] (shapeCast S1x1x1 v shapeCasts_S1_S1x1x1) inpos_S1x1x1_p0_0_0 = v j := ⟨_, rfl⟩

theorem pay16_le (Y : FVec Ideal S512x2048 .f32) (b : EReal) :
    (k0_pay16 (F := Ideal) Y : EReal) ≤ b ↔ ∀ (i : Fin 512) (n : Fin 2048), max (Y (ix2 i n) : EReal) 0 ≤ b := by
  unfold k0_pay16
  obtain ⟨j, e⟩ := one_of (multiReduction .maximumf [1, 2] S1 (shapeCast S1x512x2048 (maximumf Y (broadcast S512x2048 (Scalar.ofBits (F := Ideal) .f32 0x00000000#32))) shapeCasts_S512x2048_S1x512x2048) 0xFF800000#32 reduces_S1x512x2048_S1 (.inl rfl) rfl)
  refine (iff_of_eq (congrArg (fun z : EReal => z ≤ b) e)).trans ?_
  exact (red_le _ j b).trans (stackH_le Y b)

theorem pay18_le (Y : FVec Ideal S512x2048 .f32) (b : EReal) :
    (k0_pay18 (F := Ideal) Y : EReal) ≤ b ↔ ∀ (i : Fin 512) (n : Fin 2048), max (Y (ix2 i n) : EReal) 0 ≤ b := by
  unfold k0_pay18
  obtain ⟨j, e⟩ := one_of (multiReduction .maximumf [1, 2] S1 (shapeCast S1x512x2048 (maximumf Y (broadcast S512x2048 (Scalar.ofBits (F := Ideal) .f32 0x00000000#32))) shapeCasts_S512x2048_S1x512x2048) 0xFF800000#32 reduces_S1x512x2048_S1 (.inl rfl) rfl)
  refine (iff_of_eq (congrArg (fun z : EReal => z ≤ b) e)).trans ?_
  exact (red_le _ j b).trans (stackH_le Y b)

theorem pay19_apply (a b : Ideal .f32) (i : Fin 8) (j : Fin 128) : (k0_pay19 (F := Ideal) a b) (ix3 (0 : Fin 1) i j) = max (a : EReal) b := by
  unfold k0_pay19
  exact shapeCast_ab_1ab_apply _ _ _ i j

theorem pay20_le (A : FVec Ideal S4x8x128 .f32) (b : EReal) :
    (k0_pay20 (F := Ideal) A : EReal) ≤ b ↔ ∀ (q : Fin 4) (i : Fin 8) (j : Fin 128), (A (ix3 q i j) : EReal) ≤ b := by
  refine (redA_le _ _ b).trans ?_
  have h0 : ∀ (u : Fin 1) (q : Fin 4) (i : Fin 8) (j : Fin 128),
      ((shapeCast S1x4x8x128 A shapeCasts_S4x8x128_S1x4x8x128 : FVec Ideal S1x4x8x128 .f32) (ix4 u q i j) : EReal) = A (ix3 q i j) :=
    fun u q i j => shapeCast_abc_1abc_apply _ _ u q i j
  constructor
  · intro h q i j
    rw [← h0 0 q i j]; exact h _
  · intro h i
    obtain ⟨u, p, q, t, rfl⟩ : ∃ (u : Fin 1) (p : Fin 4) (q : Fin 8) (t : Fin 128), i = ix4 u p q t := ⟨i 0, i 1, i 2, i 3, eq_ix4 i⟩
    rw [h0]; exact h _ _ _

/-! ## The quarters -/

theorem pay21_eq (A : FVec Ideal S4x8x128 .f32) : (k0_pay21 (F := Ideal) A : EReal) = (k0_pay20 (F := Ideal) A : EReal) * (((448 : ℝ)⁻¹ : ℝ) : EReal) :=
  congrArg ((k0_pay20 (F := Ideal) A : EReal) * ·) (IdealRules.named_const.ideal_named_scalar _ _ _ _ rfl)

theorem pay22_eq (A : FVec Ideal S4x8x128 .f32) : (k0_pay22 (F := Ideal) A : EReal) = Ideal.div q448 (k0_pay20 (F := Ideal) A) := by
  have h : ∀ z : Ideal .f32, (Scalar.divf (Scalar.ofBits (F := Ideal) .f32 0x43E00000#32) z : EReal) = Ideal.div q448 z := fun z => by
    rw [← bits_448]; rfl
  unfold k0_pay22
  exact h _

theorem pay24_apply (s v : Ideal .f32) (y : FVec Ideal S256x2048 .f32) (i : S256x2048.Idx) :
    (k0_pay24 (F := Ideal) s v (k0_pay23 (F := Ideal) y)) i = min (max (y i : EReal) 0 * v) q448 * (s : EReal) := by
  unfold k0_pay24 k0_pay23
  refine (congrFun (shapeCast_self _ _) i).trans ?_
  rw [← bits_448, ← Ideal.ofBits_zero_f32]; rfl

theorem pay25_apply (s v : Ideal .f32) (y : FVec Ideal S256x2048 .f32) (i : S256x2048.Idx) :
    (k0_pay25 (F := Ideal) s v y) i = min (max (y i : EReal) 0 * v) q448 * (s : EReal) := by
  unfold k0_pay25
  refine (congrFun (shapeCast_self _ _) i).trans ?_
  rw [← bits_448, ← Ideal.ofBits_zero_f32]; rfl

theorem pay26_apply (s v : Ideal .f32) (y : FVec Ideal S256x2048 .f32) (i : S256x2048.Idx) :
    (k0_pay26 (F := Ideal) s v y (Scalar.ofBits (F := Ideal) .f32 0x00000000#32)) i = min (max (y i : EReal) 0 * v) q448 * (s : EReal) := by
  unfold k0_pay26
  refine (congrFun (shapeCast_self _ _) i).trans ?_
  rw [← bits_448, ← Ideal.ofBits_zero_f32]; rfl

theorem pay27_apply (s v : Ideal .f32) (y : FVec Ideal S256x2048 .f32) (i : S256x2048.Idx) :
    (k0_pay27 (F := Ideal) s v y) i = min (max (y i : EReal) 0 * v) q448 * (s : EReal) := by
  unfold k0_pay27
  refine (congrFun (shapeCast_self _ _) i).trans ?_
  rw [← bits_448, ← Ideal.ofBits_zero_f32]; rfl

end Cert.KernelIdeal.Hand

end
-- ==== Proof.IdealSum.lean ====
/-
  The result of the idealized kernel in terms of the whole operands: `x`, of which a device holds a block of columns, and
  `w`, of which every device holds a copy.
-/
module

public import proofs.«01_k».proof.Proof.IdealValue

@[expose] public section

noncomputable section

namespace Cert.KernelIdeal.Hand

open Cert.KernelIdeal Cert.KernelIdeal.Gen Cert.Hand Idealize.ShloMosaic Idealize.ShloMosaic.TcCoe
open Idealize.ShloMosaic.ValueIdx
open scoped BigOperators

/-- Every device's maximum is among the four. -/
theorem holders : ∀ a c : Dev nD, ∃ q : Fin 4, ![lf c, rt c, op c, c] q = a := by decide

/-! ## The blocks of rows read -/

theorem off1_rt : ∀ c : Dev nD, k0_off1 c 1#32 = ![1024 * (rt c).val, 0] := by decide +kernel
theorem off1_op : ∀ c : Dev nD, k0_off1 c 2#32 = ![1024 * (op c).val, 0] := by decide +kernel
theorem off2_lf : ∀ c : Dev nD, k0_off2 c = ![1024 * (lf c).val, 0] := by decide +kernel
theorem off5_lf : ∀ c : Dev nD, k0_off5 c = ![1024 * (lf c).val, 0] := by decide +kernel
theorem off6_rt : ∀ c : Dev nD, k0_off6 c 1#32 = ![1024 * (rt c).val, 0] := by decide +kernel
theorem off6_op : ∀ c : Dev nD, k0_off6 c 2#32 = ![1024 * (op c).val, 0] := by decide +kernel

/-- A block of 1024 rows of a device's columns of `x`, element by element. -/
theorem xrow (o : Fin 2 → ℕ) (d : Fin 4) (ho : o = ![1024 * d.val, 0]) (hb : ∀ a, o a + S1024x1024.size a ≤ S4096x1024.size a)
    (v : FVec Ideal S4096x1024 .f32) (i k : Fin 1024) :
    (((xM).slice (Rect.unit (s := S4096x1024) o S1024x1024.size hb) (fun _ => rfl)).view.read (Elt Ideal) v : FVec Ideal S1024x1024 .f32) (ix2 i k)
      = v (ix2 (blk d i) k) := by
  subst ho
  refine congrArg v (funext fun a => Fin.ext ?_)
  match a with
  | ⟨0, _⟩ => show 1024 * d.val + 1 * i.val = 1024 * d.val + i.val; omega
  | ⟨1, _⟩ => show 0 + 1 * k.val = k.val; omega

/-- A block of 1024 rows of `w`. -/
theorem wrow (o : Fin 2 → ℕ) (d : Fin 4) (ho : o = ![1024 * d.val, 0]) (hb : ∀ a, o a + S1024x2048.size a ≤ S4096x2048.size a)
    (v : FVec Ideal S4096x2048 .f32) (k : Fin 1024) (n : Fin 2048) :
    (((wM).slice (Rect.unit (s := S4096x2048) o S1024x2048.size hb) (fun _ => rfl)).view.read (Elt Ideal) v : FVec Ideal S1024x2048 .f32) (ix2 k n)
      = v (ix2 (blk d k) n) := by
  subst ho
  refine congrArg v (funext fun a => Fin.ext ?_)
  match a with
  | ⟨0, _⟩ => show 1024 * d.val + 1 * k.val = 1024 * d.val + k.val; omega
  | ⟨1, _⟩ => show 0 + 1 * n.val = n.val; omega

variable (m : (ℓ : Loc nD τ sig) → Buf (Elt Ideal) ℓ)
variable (x : Fin 4096 → Fin 4096 → EReal) (w : Fin 4096 → Fin 2048 → EReal)
variable (hx : ∀ (d : Dev nD) (r : Fin 4096) (k : Fin 1024), (xin m d : FVec Ideal S4096x1024 .f32) (ix2 r k) = x r (blk d k))
variable (hw : ∀ (d : Dev nD) (k : Fin 4096) (n : Fin 2048), (win m d : FVec Ideal S4096x2048 .f32) (ix2 k n) = w k n)

section
include hx

theorem sR_apply (d : Dev nD) (i k : Fin 1024) : (sR m d : FVec Ideal S1x1024x1024 .bf16) (ix3 (0 : Fin 1) i k) = x (blk (rt d) i) (blk d k) := by
  unfold sR
  rw [pay1_apply]
  unfold bR
  refine (shapeCast_ab_1ab_apply _ _ _ i k).trans ?_
  rw [xrow _ (rt d) (off1_rt d), hx]

theorem sL_apply (d : Dev nD) (i k : Fin 1024) : (sL m d : FVec Ideal S1x1024x1024 .bf16) (ix3 (0 : Fin 1) i k) = x (blk (lf d) i) (blk d k) := by
  unfold sL
  rw [pay2_apply]
  unfold bL
  refine (shapeCast_ab_1ab_apply _ _ _ i k).trans ?_
  rw [xrow _ (lf d) (off2_lf d), hx]

theorem sO_apply (d : Dev nD) (i k : Fin 1024) : (sO m d : FVec Ideal S1x1024x1024 .bf16) (ix3 (0 : Fin 1) i k) = x (blk (op d) i) (blk d k) := by
  unfold sO
  rw [pay4_apply]
  unfold bO
  refine (shapeCast_ab_1ab_apply _ _ _ i k).trans ?_
  rw [xrow _ (op d) (off1_op d), hx]

theorem sC_apply (d : Dev nD) (i k : Fin 1024) : (sC m d : FVec Ideal S1x1024x1024 .bf16) (ix3 (0 : Fin 1) i k) = x (blk d i) (blk d k) := by
  unfold sC
  rw [pay5_apply]
  unfold bC
  refine (shapeCast_ab_1ab_apply _ _ _ i k).trans ?_
  rw [xrow _ d (k0_off3_eq d), hx]

end

section
include hw

theorem uC_apply (c : Dev nD) (k : Fin 1024) (n : Fin 2048) : (uC m c : FVec Ideal S1024x2048 .bf16) (ix2 k n) = w (blk c k) n := by
  unfold uC
  rw [pay6_eq]
  unfold vC
  rw [wrow _ c (k0_off4_eq c), hw]

theorem uL_apply (c : Dev nD) (k : Fin 1024) (n : Fin 2048) : (uL m c : FVec Ideal S1024x2048 .bf16) (ix2 k n) = w (blk (lf c) k) n := by
  unfold uL
  rw [pay9_eq]
  unfold vL
  rw [wrow _ (lf c) (off5_lf c), hw]

theorem uR_apply (c : Dev nD) (k : Fin 1024) (n : Fin 2048) : (uR m c : FVec Ideal S1024x2048 .bf16) (ix2 k n) = w (blk (rt c) k) n := by
  unfold uR
  rw [pay12_eq]
  unfold vR
  rw [wrow _ (rt c) (off6_rt c), hw]

theorem uO_apply (c : Dev nD) (k : Fin 1024) (n : Fin 2048) : (uO m c : FVec Ideal S1024x2048 .bf16) (ix2 k n) = w (blk (op c) k) n := by
  unfold uO
  rw [pay14_eq]
  unfold vO
  rw [wrow _ (op c) (off6_op c), hw]

end

/-! ## The running sums -/

section
include hx hw

theorem y0_apply (c : Dev nD) (i : Fin 1024) (n : Fin 2048) : (y0 m c : FVec Ideal S1024x2048 .f32) (ix2 i n) = partE x w c (blk c i) n := by
  unfold y0
  rw [pay7_apply]
  refine Finset.sum_congr rfl fun k _ => ?_
  rw [sC_apply m x hx, uC_apply m w hw]

theorem y1_apply (c : Dev nD) (i : Fin 1024) (n : Fin 2048) : (y1 m c : FVec Ideal S1024x2048 .f32) (ix2 i n)
    = partE x w c (blk c i) n + partE x w (lf c) (blk c i) n := by
  unfold y1
  rw [pay10_apply, y0_apply m x w hx hw]
  refine congrArg (partE x w c (blk c i) n + ·) (Finset.sum_congr rfl fun k _ => ?_)
  rw [sR_apply m x hx, uL_apply m w hw, rt_lf]

theorem y2_apply (c : Dev nD) (i : Fin 1024) (n : Fin 2048) : (y2 m c : FVec Ideal S1024x2048 .f32) (ix2 i n)
    = partE x w c (blk c i) n + partE x w (lf c) (blk c i) n + partE x w (rt c) (blk c i) n := by
  unfold y2
  rw [pay13_apply, y1_apply m x w hx hw]
  refine congrArg (partE x w c (blk c i) n + partE x w (lf c) (blk c i) n + ·) (Finset.sum_congr rfl fun k _ => ?_)
  rw [sL_apply m x hx, uR_apply m w hw, lf_rt]

/-- The four parts make the product's element. -/
theorem parts_sum (c : Dev nD) (r : Fin 4096) (n : Fin 2048) :
    partE x w c r n + partE x w (lf c) r n + partE x w (rt c) r n + partE x w (op c) r n = prodE x w r n := by
  rw [prodE_eq, Fin.sum_univ_four]
  generalize partE x w = p
  match c with
  | 0 => show p 0 r n + p 3 r n + p 1 r n + p 2 r n = _; abel
  | 1 => show p 1 r n + p 0 r n + p 2 r n + p 3 r n = _; abel
  | 2 => show p 2 r n + p 1 r n + p 3 r n + p 0 r n = _; abel
  | 3 => show p 3 r n + p 2 r n + p 0 r n + p 1 r n = _; abel

theorem yTop_apply (c : Dev nD) (i : Fin 512) (n : Fin 2048) : (yTop m c : FVec Ideal S512x2048 .f32) (ix2 i n)
    = prodE x w (blk c ⟨i.val, by omega⟩) n := by
  unfold yTop
  rw [pay15_apply, ← parts_sum m x w hx hw c]
  have h1 : half 0 (y2 m c) (ix2 i n) = (y2 m c : FVec Ideal S1024x2048 .f32) (ix2 (⟨i.val, by omega⟩ : Fin 1024) n) := by
    refine (congrArg (y2 m c) (ixY_eq _ _)).trans (congrArg (fun t => (y2 m c : FVec Ideal S1024x2048 .f32) (ix2 t n)) (Fin.ext ?_))
    show 512 * 0 + i.val = i.val; omega
  rw [h1, y2_apply m x w hx hw]
  refine congrArg (partE x w c (blk c ⟨i.val, by omega⟩) n + partE x w (lf c) (blk c ⟨i.val, by omega⟩) n + partE x w (rt c) (blk c ⟨i.val, by omega⟩) n + ·) (Finset.sum_congr rfl fun k _ => ?_)
  have h2 : hiA (sO m (op c)) (ix3 (0 : Fin 1) i k) = (sO m (op c) : FVec Ideal S1x1024x1024 .bf16) (ix3 (0 : Fin 1) (⟨i.val, by omega⟩ : Fin 1024) k) :=
    congrArg (sO m (op c)) (ixS_eq _ _)
  rw [h2, sO_apply m x hx, uO_apply m w hw, op_op]

theorem yBot_apply (c : Dev nD) (i : Fin 512) (n : Fin 2048) : (yBot m c : FVec Ideal S512x2048 .f32) (ix2 i n)
    = prodE x w (blk c ⟨512 + i.val, by omega⟩) n := by
  unfold yBot
  rw [pay17_apply, ← parts_sum m x w hx hw c]
  have h1 : half 1 (y2 m c) (ix2 i n) = (y2 m c : FVec Ideal S1024x2048 .f32) (ix2 (⟨512 + i.val, by omega⟩ : Fin 1024) n) := by
    refine (congrArg (y2 m c) (ixY_eq _ _)).trans (congrArg (fun t => (y2 m c : FVec Ideal S1024x2048 .f32) (ix2 t n)) (Fin.ext ?_))
    show 512 * 1 + i.val = 512 + i.val; omega
  rw [h1, y2_apply m x w hx hw]
  refine congrArg (partE x w c (blk c ⟨512 + i.val, by omega⟩) n + partE x w (lf c) (blk c ⟨512 + i.val, by omega⟩) n + partE x w (rt c) (blk c ⟨512 + i.val, by omega⟩) n + ·) (Finset.sum_congr rfl fun k _ => ?_)
  have h2 : hiB (sO m (op c)) (ix3 (0 : Fin 1) i k) = (sO m (op c) : FVec Ideal S1x1024x1024 .bf16) (ix3 (0 : Fin 1) (⟨512 + i.val, by omega⟩ : Fin 1024) k) :=
    congrArg (sO m (op c)) (ixS_eq _ _)
  rw [h2, sO_apply m x hx, uO_apply m w hw, op_op]

theorem y3_apply (c : Dev nD) (i : Fin 1024) (n : Fin 2048) : (y3 m c : FVec Ideal S1024x2048 .f32) (ix2 i n) = prodE x w (blk c i) n := by
  unfold y3 ofHalves
  by_cases h : i.val < 512
  · refine (dif_pos h).trans ?_
    refine (congrArg (yTop m c) (ixH_eq _ _)).trans ?_
    exact yTop_apply m x w hx hw c ⟨i.val, h⟩ n
  · refine (dif_neg h).trans ?_
    refine (congrArg (yBot m c) (ixH_eq _ _)).trans ?_
    refine (yBot_apply m x w hx hw c ⟨i.val - 512, by omega⟩ n).trans ?_
    refine congrArg (fun t => prodE x w (blk c t) n) (Fin.ext ?_)
    show 512 + (i.val - 512) = i.val; omega

/-! ## The maxima -/

theorem amx_le (c : Dev nD) (p : Fin 8) (q : Fin 128) (b : EReal) : ((amx m c : FVec Ideal S1x8x128 .f32) (ix3 (0 : Fin 1) p q) : EReal) ≤ b
    ↔ ∀ (i : Fin 1024) (n : Fin 2048), reluE x w (blk c i) n ≤ b := by
  unfold amx
  rw [pay19_apply, max_le_iff, pay16_le, pay18_le]
  simp only [yTop_apply m x w hx hw, yBot_apply m x w hx hw]
  constructor
  · rintro ⟨ha, hb⟩ i n
    by_cases h : i.val < 512
    · exact ha ⟨i.val, h⟩ n
    · have e : i = (⟨512 + (i.val - 512), by omega⟩ : Fin 1024) := Fin.ext (by show i.val = 512 + (i.val - 512); omega)
      rw [e]
      exact hb ⟨i.val - 512, by omega⟩ n
  · intro h
    exact ⟨fun i n => h _ n, fun i n => h _ n⟩

/-- What a device makes of the four maxima it holds: the largest element of the whole ReLU. -/
theorem top_eq (c : Dev nD) : (k0_pay20 (F := Ideal) (amAll m c) : EReal) = topE x w := by
  refine eq_of_forall_ge_iff fun b => ?_
  rw [pay20_le, topE_le]
  have h0 : ∀ (q : Fin 4) (i : Fin 8) (j : Fin 128), (amAll m c : FVec Ideal S4x8x128 .f32) (ix3 q i j)
      = (amx m (![lf c, rt c, op c, c] q) : FVec Ideal S1x8x128 .f32) (ix3 (0 : Fin 1) i j) := fun q i j =>
    congrArg (amx m (![lf c, rt c, op c, c] q)) (ixM_eq i j)
  simp only [h0, amx_le m x w hx hw]
  constructor
  · intro h r n
    obtain ⟨a, i, rfl⟩ := blk_div r
    have hq : ∃ q : Fin 4, ![lf c, rt c, op c, c] q = a := holders a c
    obtain ⟨q, rfl⟩ := hq
    exact h q 0 0 i n
  · intro h q _ _ i n
    exact h _ n

/-! ## The result -/

theorem quarter (c : Dev nD) (k : Fin 4) (i : Fin 256) (n : Fin 2048) : (outQ m c k : FVec Ideal S256x2048 .f32) (ix2 i n)
    = quantE (reluE x w (blk c ⟨256 * k.val + i.val, by omega⟩) n) (topE x w) := by
  have h0 : (quart k (y3 m c) : FVec Ideal S256x2048 .f32) (ix2 i n) = prodE x w (blk c ⟨256 * k.val + i.val, by omega⟩) n :=
    (congrArg (y3 m c) (ixY_eq _ _)).trans (y3_apply m x w hx hw c _ n)
  have h1 := pay21_eq (amAll m c)
  have h2 := pay22_eq (amAll m c)
  rw [top_eq m x w hx hw] at h1 h2
  unfold quantE reluE
  rw [← h0, ← h1, ← h2]
  match k with
  | 0 => exact pay24_apply _ _ _ _
  | 1 => exact pay25_apply _ _ _ _
  | 2 => exact pay26_apply _ _ _ _
  | 3 => exact pay27_apply _ _ _ _

/-- The result of device `c`, element by element. -/
theorem out_apply (c : Dev nD) (i : Fin 1024) (n : Fin 2048) : (out m c : FVec Ideal S1024x2048 .f32) (ix2 i n)
    = quantE (reluE x w (blk c i) n) (topE x w) := by
  unfold out ofQuarts
  refine (congrArg (outQ m c _) (ixQ_eq _ _)).trans ?_
  refine (quarter m x w hx hw c _ _ n).trans ?_
  refine congrArg (fun t => quantE (reluE x w (blk c t) n) (topE x w)) (Fin.ext ?_)
  show 256 * (i.val / 256) + i.val % 256 = i.val; omega

end

end Cert.KernelIdeal.Hand

end
-- ==== Proof.RefValue.lean ====
/-
  The value of the reference's run: its result array, element by element, in terms of the product, its ReLU and the
  largest element of that.
-/
module

public import proofs.«01_k».proof.Proof.Gen.ReferenceIdeal.Value
public import proofs.«01_k».proof.Proof.Equation
public import Idealize.ShloMosaic.PureOps.Ideal.Laws
public import Idealize.ShloMosaic.Lib.ValueIdx
public import Idealize.ShloMosaic.Lib.IdealHost
public import Idealize.ShloMosaic.Lib.MatmulPlain
public import Idealize.ShloMosaic.Lib.StackMember
public import Idealize.ShloMosaic.Lib.Claim
public import Idealize.ShloMosaic.Lib.StableHlo.RunRead

@[expose] public section

noncomputable section

namespace Cert.ReferenceIdeal.Hand

open Cert.ReferenceIdeal Cert.ReferenceIdeal.Gen Idealize.ShloMosaic Idealize.ShloMosaic.TcCoe Idealize.SL.Sem
open Idealize.ShloMosaic.Pipeline (Dat)
open Idealize.ShloMosaic.ValueIdx
open Cert.Hand
open scoped BigOperators

variable (m : (ℓ : Loc nD τ sig) → Buf (Elt Ideal) ℓ) (ρ : Dev nD → PrngReg)

theorem hz : (![0, 0] : Fin 2 → Nat) = fun _ => 0 := funext fun a => by fin_cases a <;> rfl

/-- The result array: the quantised array scaled back. -/
abbrev result (c : Dev nD) : Buf (Elt Ideal) ((c : Thread nD τ).loc main_v11) :=
  Cert.ReferenceIdeal.Value.E2 (F := Ideal) (V m c main_v9) (V m c main_v10)

theorem iblk0_eq (c : Dev nD) : iblk m c 0 t0_0 = V m c main_v9 := by
  have hz' : (fun a => win0_0.index t0_0 a * main_v9.ty.shape.size a) = fun _ => 0 := funext fun a => by fin_cases a <;> decide
  exact Memref.read_access_unit_zero (Elt Ideal) main_v9 hz' (fun a => by rw [congrFun hz' a]; simp) (V m c main_v9)

theorem iblk1_eq (c : Dev nD) : iblk m c 1 t0_0 = V m c main_v10 := by
  have hz' : (fun a => win0_1.index t0_0 a * main_v10.ty.shape.size a) = fun _ => 0 := funext fun a => by fin_cases a <;> decide
  exact Memref.read_access_unit_zero (Elt Ideal) main_v10 hz' (fun a => by rw [congrFun hz' a]; simp) (V m c main_v10)

/-- The body's result on any two inputs. -/
theorem out_eq (x : Vec Ideal S4096x2048 .fp8e4m3) (s : Vec Ideal S1x1 .f32) :
    out0_2 x s = Cert.ReferenceIdeal.Value.E2 (F := Ideal) x s := by
  unfold out0_2
  rw [View.ld_unit_zero (S := S4096x2048) hz, View.ld_unit_zero (S := S1x1) hz]
  exact funext fun y => Cert.ReferenceIdeal.Value.canon2_eq x s y

theorem flushed_eq (c : Dev nD) (t : Fin cfg0.N) (hf : (cfg0.win 2).flush t = true) :
    (dats m 0 c).flushed 2 t = ((cfg0.win 2).blk t).view.read (Elt Ideal) (result m c) := by
  have hN : cfg0.N = 1 := N_0
  obtain rfl : t = t0_0 := Fin.ext (by have := t.isLt; show t.val = 0; omega)
  rw [Cert.ReferenceIdeal.Value.flushed2, iblk0_eq, iblk1_eq, out_eq]
  have hz' : (fun a => win0_2.index t0_0 a * main_v11.ty.shape.size a) = fun _ => 0 := funext fun a => by fin_cases a <;> decide
  exact (Memref.read_access_unit_zero (Elt Ideal) main_v11 hz' (fun a => by rw [congrFun hz' a]; simp) (result m c)).symm

/-- The result array after the run. -/
theorem final_o (c : Dev nD) : (dats m 0 c).arrAt 2 cfg0.N = result m c :=
  (dats m 0 c).arrAt_eq_of_cover 2 (result m c) (flushed_eq m c) fun i =>
    ⟨t0_0, flush0_2 t0_0, by
      show i ∈ ((View.whole main_v11).slice (win0_2.rect t0_0)).set
      rw [View.set_slice_whole, Rect.mem_set_unit]
      intro a
      have h0 : (i 0 : Nat) < 4096 := (i 0).isLt
      have h1 : (i 1 : Nat) < 2048 := (i 1).isLt
      match a with
      | ⟨0, _⟩ => show win0_2.index t0_0 0 * win0_2.size 0 ≤ (i 0 : Nat) ∧ (i 0 : Nat) < win0_2.index t0_0 0 * win0_2.size 0 + win0_2.xsize (grid0.coords t0_0) 0
                  rw [show win0_2.index t0_0 0 * win0_2.size 0 = 0 from by decide +kernel, show win0_2.xsize (grid0.coords t0_0) 0 = 4096 from by decide +kernel]; omega
      | ⟨1, _⟩ => show win0_2.index t0_0 1 * win0_2.size 1 ≤ (i 1 : Nat) ∧ (i 1 : Nat) < win0_2.index t0_0 1 * win0_2.size 1 + win0_2.xsize (grid0.coords t0_0) 1
                  rw [show win0_2.index t0_0 1 * win0_2.size 1 = 0 from by decide +kernel, show win0_2.xsize (grid0.coords t0_0) 1 = 2048 from by decide +kernel]; omega⟩

/-- The product the reference forms. -/
abbrev prod0 (X : FVec Ideal S4096x4096 .f32) (W : FVec Ideal S4096x2048 .f32) : FVec Ideal S4096x2048 .f32 :=
  Host.dotGeneral dot_S4096x4096_S4096x2048_S4096x2048_1_0_0_1_n_n none X W

/-- Its ReLU. -/
abbrev relu0 (P : FVec Ideal S4096x2048 .f32) : FVec Ideal S4096x2048 .f32 :=
  maximumf P (broadcastInDim S4096x2048 ![] bcast_S_S4096x2048 (constant (F := Ideal) S_ .f32 0x00000000#32))

/-- The scale: the largest element over 448. -/
abbrev scale0 (R : FVec Ideal S4096x2048 .f32) : FVec Ideal S_ .f32 :=
  Host.divf (Host.reduce FloatOps.maximumf (Host.absf R) (constant (F := Ideal) S_ .f32 0xFF800000#32) reducesTo_S4096x2048_S_d0_1 h_S_)
    (constant (F := Ideal) S_ .f32 0x43E00000#32)

/-- The array divided by the scale and clipped. -/
abbrev clip0 (R : FVec Ideal S4096x2048 .f32) (s : FVec Ideal S_ .f32) : FVec Ideal S4096x2048 .f32 :=
  minimumf (broadcastInDim S4096x2048 ![] bcast_S_S4096x2048 (constant (F := Ideal) S_ .f32 0x43E00000#32))
    (maximumf (broadcastInDim S4096x2048 ![] bcast_S_S4096x2048 (constant (F := Ideal) S_ .f32 0xC3E00000#32))
      (Host.divf R (broadcastInDim S4096x2048 ![] bcast_S_S4096x2048 s)))

theorem v10_eq (c : Dev nD) : V m c main_v10
    = shapeCast S1x1 (scale0 (relu0 (prod0 (m ((c : Thread nD τ).loc main_arg0)) (m ((c : Thread nD τ).loc main_arg1))))) shapeCasts_S_S1x1 := by
  unfold V
  after_reads_simp
  rfl

theorem v9_eq (c : Dev nD) : V m c main_v9
    = Host.convertf (F := Ideal) .fp8e4m3 (clip0 (relu0 (prod0 (m ((c : Thread nD τ).loc main_arg0)) (m ((c : Thread nD τ).loc main_arg1))))
        (scale0 (relu0 (prod0 (m ((c : Thread nD τ).loc main_arg0)) (m ((c : Thread nD τ).loc main_arg1)))))) := by
  unfold V
  after_reads_simp
  rfl

theorem prod0_apply (X : FVec Ideal S4096x4096 .f32) (W : FVec Ideal S4096x2048 .f32) (r : Fin 4096) (n : Fin 2048) :
    prod0 X W (ix2 r n) = prodE (fun r k => X (ix2 r k)) (fun k n => W (ix2 k n)) r n :=
  StackMember.dotGeneral_plain_apply none X W r n

theorem relu0_apply (P : FVec Ideal S4096x2048 .f32) (i : S4096x2048.Idx) : relu0 P i = max (P i) 0 := by
  show max (P i) (Ideal.ofBits .f32 0x00000000#32) = _
  rw [Ideal.ofBits_zero_f32]

/-- The scale is the quotient of the array's largest element by 448. -/
theorem scale0_apply (R : FVec Ideal S4096x2048 .f32) (hR : ∀ i, 0 ≤ R i) (G : EReal)
    (hG : ∀ b, G ≤ b ↔ ∀ (r : Fin 4096) (n : Fin 2048), R (ix2 r n) ≤ b) (j : S_.Idx) : scale0 R j = Ideal.div G q448 := by
  have h2 : ∀ (A : FVec Ideal S_ .f32), Host.divf A (constant (F := Ideal) S_ .f32 0x43E00000#32) j = Ideal.div (A j) q448 := fun A => by
    rw [← bits_448]; rfl
  unfold scale0
  rw [h2, Host.reduce_eq_fold]
  congr 1
  refine eq_of_forall_ge_iff fun b => ?_
  rw [hG]
  have h3 : ∀ i, (Host.absf R) i = R i := fun i => by
    show max (R i : EReal) (-(R i : EReal)) = R i
    have hi : (0 : EReal) ≤ R i := hR i
    exact max_eq_left ((by simpa using hi : -(R i : EReal) ≤ 0).trans hi)
  refine (fold_max_le _ _ b _).trans ?_
  have h4 : (constant (F := Ideal) S_ .f32 0xFF800000#32) (Shape.Idx.first h_S_) = (⊥ : EReal) := bits_bot
  rw [h4]
  constructor
  · rintro ⟨-, h⟩ r n
    have := h (ix2 r n) (Finset.mem_filter.mpr ⟨Finset.mem_univ _, funext fun a => a.elim0⟩)
    rwa [h3] at this
  · intro h
    refine ⟨bot_le, fun i _ => ?_⟩
    rw [h3, eq_ix2 i]
    exact h _ _

theorem clip0_apply (R : FVec Ideal S4096x2048 .f32) (s : FVec Ideal S_ .f32) (i : S4096x2048.Idx) :
    clip0 R s i = min q448 (max ((-448 : ℝ) : EReal) (Ideal.div (R i) (s ix0))) := by
  have h : clip0 R s i = min (Ideal.ofBits .f32 0x43E00000#32) (max (Ideal.ofBits .f32 0xC3E00000#32)
      (Ideal.div (R i) (broadcastInDim S4096x2048 ![] bcast_S_S4096x2048 s i))) := rfl
  rw [h, bits_448, bits_neg448, broadcastInDim_scalar_apply]

/-- The result array, element by element. -/
theorem result_apply (c : Dev nD) (r : Fin 4096) (n : Fin 2048)
    (x : Fin 4096 → Fin 4096 → EReal) (w : Fin 4096 → Fin 2048 → EReal)
    (hx : ∀ r k, (m ((c : Thread nD τ).loc main_arg0) : FVec Ideal S4096x4096 .f32) (ix2 r k) = x r k)
    (hw : ∀ k n, (m ((c : Thread nD τ).loc main_arg1) : FVec Ideal S4096x2048 .f32) (ix2 k n) = w k n) :
    (result m c : FVec Ideal S4096x2048 .f32) (ix2 r n) = quantR (reluE x w r n) (Ideal.div (topE x w) q448) := by
  obtain rfl : x = fun r k => (m ((c : Thread nD τ).loc main_arg0) : FVec Ideal S4096x4096 .f32) (ix2 r k) :=
    funext fun r => funext fun k => (hx r k).symm
  obtain rfl : w = fun k n => (m ((c : Thread nD τ).loc main_arg1) : FVec Ideal S4096x2048 .f32) (ix2 k n) :=
    funext fun k => funext fun n => (hw k n).symm
  have key : (result m c : FVec Ideal S4096x2048 .f32) (ix2 r n) = (fun (A : FVec Ideal S4096x2048 .fp8e4m3) (B : FVec Ideal S1x1 .f32) =>
      (A (Cert.ReferenceIdeal.Value.ix2_0 (ix2 r n)) : EReal) * (B (Cert.ReferenceIdeal.Value.ix2_1 (ix2 r n)) : EReal)) (V m c main_v9) (V m c main_v10) := rfl
  rw [key]
  rw [v9_eq, v10_eq]
  generalize m ((c : Thread nD τ).loc main_arg0) = X
  generalize m ((c : Thread nD τ).loc main_arg1) = W
  have hrel : ∀ i j, relu0 (prod0 X W) (ix2 i j) = reluE (fun r k => X (ix2 r k)) (fun k n => W (ix2 k n)) i j := fun i j => by
    rw [relu0_apply, prod0_apply]; rfl
  have hs : ∀ j, scale0 (relu0 (prod0 X W)) j = Ideal.div (topE (fun r k => X (ix2 r k)) (fun k n => W (ix2 k n))) q448 := fun j => by
    refine scale0_apply _ (fun i => ?_) _ (fun b => ?_) j
    · rw [relu0_apply]; exact le_max_right _ _
    · rw [topE_le]; simp only [hrel]
  have e1 : Cert.ReferenceIdeal.Value.ix2_0 (ix2 r n) = ix2 r n := funext fun a => match a with | ⟨0, _⟩ => rfl | ⟨1, _⟩ => rfl
  rw [e1]
  show clip0 _ _ (ix2 r n) * scale0 _ _ = _
  rw [clip0_apply, hs, hs, hrel]
  rfl

/-- The run: the result array, the arguments kept. -/
theorem run : θ_run defs (onTc (τ := τ) (main (F := Ideal))) ⟨m, fun _ => 0, ρ⟩ fun r => ∀ c : Dev nD,
      r.2.mem ((c : Thread nD τ).loc main_v11) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_o m c), (h c).2.1, (h c).2.2⟩)
    (Cert.ReferenceIdeal.Value.run_blocks m ρ)

end Cert.ReferenceIdeal.Hand

end
-- ==== Proof.Algebraic.lean ====
/-
  The value claim: from the same operands, the idealized kernel leaves on every device its block of rows of what the
  idealized reference computes.
-/
module

public import proofs.«01_k».proof.Defs
public import proofs.«01_k».proof.Proof.IdealLaunch
public import proofs.«01_k».proof.Proof.IdealSum
public import proofs.«01_k».proof.Proof.RefValue

@[expose] public section

noncomputable section

namespace Cert.Proof

open Idealize.ShloMosaic Idealize.SL.Sem Idealize.ShloMosaic.ValueIdx Cert.Hand

/-- A device's block of columns of `x`, element by element. -/
theorem cols_apply (X : FVec Ideal ⟨2, ![4096, 4096]⟩ .f32) (d : Fin 4) (r : Fin 4096) (k : Fin 1024) :
    (Layout.block ⟨2, ![4096, 1024]⟩ ⟨2, ![4096, 4096]⟩ 1 4 d X) (ix2 r k) = X (ix2 r (blk d k)) := by
  rw [Layout.block_apply]
  refine congrArg X (funext fun a => Fin.ext ?_)
  match a with
  | ⟨0, _⟩ => rfl
  | ⟨1, _⟩ => show d.val * 1024 + k.val = 1024 * d.val + k.val; omega

/-- A device's block of rows of the result. -/
theorem rows_apply (Y : FVec Ideal ⟨2, ![4096, 2048]⟩ .f32) (d : Fin 4) (i : Fin 1024) (n : Fin 2048) :
    (Layout.block ⟨2, ![1024, 2048]⟩ ⟨2, ![4096, 2048]⟩ 0 4 d Y) (ix2 i n) = Y (ix2 (blk d i) n) := by
  rw [Layout.block_apply]
  refine congrArg Y (funext fun a => Fin.ext ?_)
  match a with
  | ⟨0, _⟩ => show d.val * 1024 + i.val = 1024 * d.val + i.val; omega
  | ⟨1, _⟩ => rfl

theorem algebraic : Cert.algebraic_KernelIdeal_ReferenceIdeal (hKernelIdeal := Cert.KernelIdeal.Gen.facts)
    (hReferenceIdeal := Cert.ReferenceIdeal.Gen.facts) := fun m g m' g' _ hag => by
  refine ⟨Cert.ReferenceIdeal.Hand.result m' 0, ?_, ?_⟩
  · refine (θ_run _ _ _).mono (fun r h c => ⟨(h.1 c).2.2.trans ?_, (h.1 c).1, (h.1 c).2.1⟩) (Cert.KernelIdeal.Hand.run_main (F := Ideal) m g)
    clear h r
    funext j
    obtain ⟨i, n, rfl⟩ : ∃ (i : Fin 1024) (n : Fin 2048), j = ix2 i n := ⟨j 0, j 1, eq_ix2 j⟩
    let X : FVec Ideal ⟨2, ![4096, 4096]⟩ .f32 := m' ((((0 : Dev Cert.ReferenceIdeal.nD).tc : Thread Cert.ReferenceIdeal.nD Cert.ReferenceIdeal.τ)).loc Cert.ReferenceIdeal.main_arg0)
    let W : FVec Ideal ⟨2, ![4096, 2048]⟩ .f32 := m' ((((0 : Dev Cert.ReferenceIdeal.nD).tc : Thread Cert.ReferenceIdeal.nD Cert.ReferenceIdeal.τ)).loc Cert.ReferenceIdeal.main_arg1)
    let x : Fin 4096 → Fin 4096 → EReal := fun r k => X (ix2 r k)
    let w : Fin 4096 → Fin 2048 → EReal := fun k n => W (ix2 k n)
    have hx : ∀ (d : Fin 4) (r : Fin 4096) (k : Fin 1024), (Cert.KernelIdeal.Hand.xin m d : FVec Ideal ⟨2, ![4096, 1024]⟩ .f32) (ix2 r k) = x r (blk d k) :=
      fun d r k => (congrFun (hag d).1 (ix2 r k)).trans (cols_apply X d r k)
    have hw : ∀ (d : Fin 4) (k : Fin 4096) (n : Fin 2048), (Cert.KernelIdeal.Hand.win m d : FVec Ideal ⟨2, ![4096, 2048]⟩ .f32) (ix2 k n) = w k n :=
      fun d k n => congrFun (hag d).2 (ix2 k n)
    refine (Cert.KernelIdeal.Hand.out_apply m x w hx hw c i n).trans ?_
    refine Eq.trans ?_ (rows_apply _ c i n).symm
    refine Eq.trans ?_ (Cert.ReferenceIdeal.Hand.result_apply m' 0 (blk c i) n x w (fun _ _ => rfl) (fun _ _ => rfl)).symm
    exact quant_eq _ _ (reluE_nonneg x w _ n) (reluE_le x w _ n)
  · exact (θ_run _ _ _).mono (fun r h => h 0) (Cert.ReferenceIdeal.Hand.run m' g')

end Cert.Proof

end
-- ==== Proof.lean ====
module

public import proofs.«01_k».proof.Proof.Gen.ReferenceIdeal.Value
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.RawLaunch
public import proofs.«01_k».proof.Proof.IdealLaunch
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The kernel as printed runs, its operands end as they were, every counter ends at zero. -/
theorem frame_kernel : Cert.quiescent_Kernel (hKernel := Cert.Kernel.Gen.facts) := fun m g _ =>
  (θ_run _ _ _).mono (fun _ h => ⟨fun c => ⟨(h.1 c).1, (h.1 c).2.1⟩, h.2⟩) (Cert.Kernel.Hand.run_main (F := Bits) m g)

/-- So does the idealized kernel, -/
theorem frame_ideal : Cert.quiescent_KernelIdeal (hKernelIdeal := Cert.KernelIdeal.Gen.facts) := fun m g _ =>
  (θ_run _ _ _).mono (fun _ h => ⟨fun c => ⟨(h.1 c).1, (h.1 c).2.1⟩, h.2⟩) (Cert.KernelIdeal.Hand.run_main (F := Ideal) m g)

/-- and the idealized reference. -/
theorem frame_reference : Cert.quiescent_ReferenceIdeal (hReferenceIdeal := Cert.ReferenceIdeal.Gen.facts) := fun m g _ =>
  Cert.ReferenceIdeal.Gen.frame (F := Ideal) m g

/-- The one rewrite: the literal that is `1/448` rounded is named. -/
theorem preserves : Cert.preserves_Kernel_KernelIdeal :=
  IdealRules.named_const.statement Cert.KernelIdeal.κ "inv448" .f32 0x3B124925#32 ((448⁻¹ : ℝ) : EReal) rfl

theorem claim : Cert.Claim :=
  ⟨Cert.Kernel.Gen.facts, Cert.KernelIdeal.Gen.facts, Cert.ReferenceIdeal.Gen.facts, frame_kernel, frame_ideal, frame_reference, preserves, algebraic⟩

end Cert.Proof

end
